-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2x16384 : Shape := ⟨3, ![1024, 2, 16384]⟩
abbrev S1024x4 : Shape := ⟨2, ![1024, 4]⟩
abbrev S1024x4x16384 : Shape := ⟨3, ![1024, 4, 16384]⟩
abbrev S1024x16384 : Shape := ⟨2, ![1024, 16384]⟩
abbrev S1024x4x1 : Shape := ⟨3, ![1024, 4, 1]⟩
abbrev S1024x4x16 : Shape := ⟨3, ![1024, 4, 16]⟩
abbrev S32x4x16 : Shape := ⟨3, ![32, 4, 16]⟩
abbrev S4x2x2048 : Shape := ⟨3, ![4, 2, 2048]⟩
abbrev S4x4x2048 : Shape := ⟨3, ![4, 4, 2048]⟩
abbrev S4x2048 : Shape := ⟨2, ![4, 2048]⟩
abbrev S_ : Shape := ⟨0, ![]⟩
abbrev S1x2x2048 : Shape := ⟨3, ![1, 2, 2048]⟩
abbrev S2x2048 : Shape := ⟨2, ![2, 2048]⟩
abbrev S1x4x2048 : Shape := ⟨3, ![1, 4, 2048]⟩
abbrev S1x2048 : Shape := ⟨2, ![1, 2048]⟩
abbrev S2048 : Shape := ⟨1, ![2048]⟩
abbrev S1x1x16 : Shape := ⟨3, ![1, 1, 16]⟩
abbrev S16 : Shape := ⟨1, ![16]⟩
abbrev S1x16 : Shape := ⟨2, ![1, 16]⟩

abbrev nBuf : Table → Nat
  | .hbm => 7
  | .local .scVector .vmem => 5
  | _ => 0

abbrev bufTy : (tb : Table) → Fin (nBuf tb) → BufTy
  | .hbm, ⟨0, _⟩ => ⟨S1024x2x16384, .f32⟩
  | .hbm, ⟨1, _⟩ => ⟨S1024x4, .f32⟩
  | .hbm, ⟨2, _⟩ => ⟨S1024x4x16384, .f32⟩
  | .hbm, ⟨3, _⟩ => ⟨S1024x16384, .f32⟩
  | .hbm, ⟨4, _⟩ => ⟨S1024x4x1, .f32⟩
  | .hbm, ⟨5, _⟩ => ⟨S1024x4x16, .f32⟩
  | .hbm, ⟨6, _⟩ => ⟨S1024x16384, .f32⟩
  | .local .scVector .vmem, ⟨0, _⟩ => ⟨S32x4x16, .f32⟩
  | .local .scVector .vmem, ⟨1, _⟩ => ⟨S4x2x2048, .f32⟩
  | .local .scVector .vmem, ⟨2, _⟩ => ⟨S4x4x2048, .f32⟩
  | .local .scVector .vmem, ⟨3, _⟩ => ⟨S4x2048, .f32⟩
  | .local .scVector .vmem, ⟨4, _⟩ => ⟨S4x2048, .f32⟩
  | _, _ => ⟨S1024x2x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_arg2_scv : Ref sig .scVector := ⟨.hbm, 2, rfl⟩
abbrev main_arg3_scv : Ref sig .scVector := ⟨.hbm, 3, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_95_r0 : BitVec 32 := 0#32
  let c0_i32_96_r0 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v3 : BitVec 32 := Scalar.addi v2 c0_i32
  let c0_i32_3 : BitVec 32 := 0#32
  let c0_i32_4 : BitVec 32 := 0#32
  ![v3.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v3 : BitVec 32 := Scalar.addi v2 c0_i32
  let c0_i32_12 : BitVec 32 := 0#32
  let c0_i32_13 : BitVec 32 := 0#32
  ![v3.toNat, 0, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v3 : BitVec 32 := Scalar.addi v2 c0_i32
  let c0_i32_20 : BitVec 32 := 0#32
  ![v3.toNat, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_23 : BitVec 32 := 0#32
  let v28 : BitVec 32 := Scalar.addi v2 c0_i32_23
  let c0_i32_26 : BitVec 32 := 0#32
  let c2048_i32 : BitVec 32 := 2048#32
  ![v28.toNat, 0, 2048]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_23 : BitVec 32 := 0#32
  let v28 : BitVec 32 := Scalar.addi v2 c0_i32_23
  let c0_i32_34 : BitVec 32 := 0#32
  let c2048_i32_35 : BitVec 32 := 2048#32
  ![v28.toNat, 0, 2048]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_23 : BitVec 32 := 0#32
  let v28 : BitVec 32 := Scalar.addi v2 c0_i32_23
  let c2048_i32_42 : BitVec 32 := 2048#32
  ![v28.toNat, 2048]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_45 : BitVec 32 := 0#32
  let v53 : BitVec 32 := Scalar.addi v2 c0_i32_45
  let c0_i32_49 : BitVec 32 := 0#32
  let c4096_i32 : BitVec 32 := 4096#32
  ![v53.toNat, 0, 4096]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_45 : BitVec 32 := 0#32
  let v53 : BitVec 32 := Scalar.addi v2 c0_i32_45
  let c0_i32_57 : BitVec 32 := 0#32
  let c4096_i32_58 : BitVec 32 := 4096#32
  ![v53.toNat, 0, 4096]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_45 : BitVec 32 := 0#32
  let v53 : BitVec 32 := Scalar.addi v2 c0_i32_45
  let c4096_i32_65 : BitVec 32 := 4096#32
  ![v53.toNat, 4096]
@[reducible] def k0_t1_loop : Scf.Loop 32 :=
  let c0_i32_69 : BitVec 32 := 0#32
  let c64_i32 : BitVec 32 := 64#32
  let v78 : BitVec 32 := Scalar.addi c0_i32_69 c64_i32
  let c1_i32_70 : BitVec 32 := 1#32
  ⟨c0_i32_69, v78, c1_i32_70⟩
def k0_cond1 (k0_t1 : Fin k0_t1_loop.trips) : BitVec 1 :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c0_i32_95 : BitVec 32 := 0#32
  let v112 : BitVec 32 := Scalar.addi v111 c0_i32_95
  let c3_i32_96 : BitVec 32 := 3#32
  let v113 : BitVec 32 := Scalar.addi v112 c3_i32_96
  let c256_i32 : BitVec 32 := 256#32
  let v114 : BitVec 1 := Scalar.cmpi .slt v113 c256_i32
  let v115 : BitVec 32 := Scalar.extui v114
  let c0_i32_97 : BitVec 32 := 0#32
  let v116 : BitVec 1 := Scalar.cmpi .ne v115 c0_i32_97
  v116

def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c0_i32_95 : BitVec 32 := 0#32
  let v112 : BitVec 32 := Scalar.addi v111 c0_i32_95
  let c3_i32_351 : BitVec 32 := 3#32
  let v508 : BitVec 32 := Scalar.addi v112 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_364 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c0_i32_95 : BitVec 32 := 0#32
  let v112 : BitVec 32 := Scalar.addi v111 c0_i32_95
  let c3_i32_351 : BitVec 32 := 3#32
  let v508 : BitVec 32 := Scalar.addi v112 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_371 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c0_i32_95 : BitVec 32 := 0#32
  let v112 : BitVec 32 := Scalar.addi v111 c0_i32_95
  let c3_i32_351 : BitVec 32 := 3#32
  let v508 : BitVec 32 := Scalar.addi v112 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, v529.toNat]
def k0_off14 (k0_t1 : Fin k0_t1_loop.trips) (c0_i32_95 : BitVec 32) : Fin 3 → Nat :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let v112 : BitVec 32 := Scalar.addi v111 c0_i32_95
  let c0_i32_126 : BitVec 32 := 0#32
  let v145 : BitVec 1 := Scalar.cmpi .sgt v112 c0_i32_126
  let v146 : BitVec 32 := Scalar.extui v145
  let c0_i32_127 : BitVec 32 := 0#32
  let v147 : BitVec 1 := Scalar.cmpi .slt v112 c0_i32_127
  let v148 : BitVec 32 := Scalar.extui v147
  let v149 : BitVec 32 := Scalar.subi v146 v148
  let c8_i32 : BitVec 32 := 8#32
  let c0_i32_128 : BitVec 32 := 0#32
  let v150 : BitVec 1 := Scalar.cmpi .sgt c8_i32 c0_i32_128
  let v151 : BitVec 32 := Scalar.extui v150
  let c0_i32_129 : BitVec 32 := 0#32
  let v152 : BitVec 1 := Scalar.cmpi .slt c8_i32 c0_i32_129
  let v153 : BitVec 32 := Scalar.extui v152
  let v154 : BitVec 32 := Scalar.subi v151 v153
  let v155 : BitVec 1 := Scalar.cmpi .ne v149 v154
  let v156 : BitVec 32 := Scalar.remsi v112 c8_i32
  let c0_i32_130 : BitVec 32 := 0#32
  let v157 : BitVec 1 := Scalar.cmpi .ne v156 c0_i32_130
  let v158 : BitVec 1 := Scalar.andi v155 v157
  let v144 : BitVec 32 := Scalar.divsi v112 c8_i32
  let c1_i32_131 : BitVec 32 := 1#32
  let v159 : BitVec 32 := Scalar.subi v144 c1_i32_131
  let v160 : BitVec 32 := Scalar.select v158 v159 v144
  let v165 : Index := Scalar.indexCast v160
  let c0_i32_134 : BitVec 32 := 0#32
  let v166 : Index := Scalar.indexCast c0_i32_134
  let c0 : Index := 0#32
  ![v165.toNat, 0, 0]
def k0_off15 (k0_t1 : Fin k0_t1_loop.trips) (c0_i32_95 : BitVec 32) : Fin 3 → Nat :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let v112 : BitVec 32 := Scalar.addi v111 c0_i32_95
  let c0_i32_126 : BitVec 32 := 0#32
  let v145 : BitVec 1 := Scalar.cmpi .sgt v112 c0_i32_126
  let v146 : BitVec 32 := Scalar.extui v145
  let c0_i32_127 : BitVec 32 := 0#32
  let v147 : BitVec 1 := Scalar.cmpi .slt v112 c0_i32_127
  let v148 : BitVec 32 := Scalar.extui v147
  let v149 : BitVec 32 := Scalar.subi v146 v148
  let c8_i32 : BitVec 32 := 8#32
  let c0_i32_128 : BitVec 32 := 0#32
  let v150 : BitVec 1 := Scalar.cmpi .sgt c8_i32 c0_i32_128
  let v151 : BitVec 32 := Scalar.extui v150
  let c0_i32_129 : BitVec 32 := 0#32
  let v152 : BitVec 1 := Scalar.cmpi .slt c8_i32 c0_i32_129
  let v153 : BitVec 32 := Scalar.extui v152
  let v154 : BitVec 32 := Scalar.subi v151 v153
  let v155 : BitVec 1 := Scalar.cmpi .ne v149 v154
  let v156 : BitVec 32 := Scalar.remsi v112 c8_i32
  let c0_i32_130 : BitVec 32 := 0#32
  let v157 : BitVec 1 := Scalar.cmpi .ne v156 c0_i32_130
  let v158 : BitVec 1 := Scalar.andi v155 v157
  let v144 : BitVec 32 := Scalar.divsi v112 c8_i32
  let c1_i32_131 : BitVec 32 := 1#32
  let v159 : BitVec 32 := Scalar.subi v144 c1_i32_131
  let v160 : BitVec 32 := Scalar.select v158 v159 v144
  let v169 : Index := Scalar.indexCast v160
  let c1_i32_135 : BitVec 32 := 1#32
  let v170 : Index := Scalar.indexCast c1_i32_135
  let c0_136 : Index := 0#32
  ![v169.toNat, 1, 0]
def k0_off16 (k0_t1 : Fin k0_t1_loop.trips) (c0_i32_95 : BitVec 32) : Fin 3 → Nat :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let v112 : BitVec 32 := Scalar.addi v111 c0_i32_95
  let c0_i32_126 : BitVec 32 := 0#32
  let v145 : BitVec 1 := Scalar.cmpi .sgt v112 c0_i32_126
  let v146 : BitVec 32 := Scalar.extui v145
  let c0_i32_127 : BitVec 32 := 0#32
  let v147 : BitVec 1 := Scalar.cmpi .slt v112 c0_i32_127
  let v148 : BitVec 32 := Scalar.extui v147
  let v149 : BitVec 32 := Scalar.subi v146 v148
  let c8_i32 : BitVec 32 := 8#32
  let c0_i32_128 : BitVec 32 := 0#32
  let v150 : BitVec 1 := Scalar.cmpi .sgt c8_i32 c0_i32_128
  let v151 : BitVec 32 := Scalar.extui v150
  let c0_i32_129 : BitVec 32 := 0#32
  let v152 : BitVec 1 := Scalar.cmpi .slt c8_i32 c0_i32_129
  let v153 : BitVec 32 := Scalar.extui v152
  let v154 : BitVec 32 := Scalar.subi v151 v153
  let v155 : BitVec 1 := Scalar.cmpi .ne v149 v154
  let v156 : BitVec 32 := Scalar.remsi v112 c8_i32
  let c0_i32_130 : BitVec 32 := 0#32
  let v157 : BitVec 1 := Scalar.cmpi .ne v156 c0_i32_130
  let v158 : BitVec 1 := Scalar.andi v155 v157
  let v144 : BitVec 32 := Scalar.divsi v112 c8_i32
  let c1_i32_131 : BitVec 32 := 1#32
  let v159 : BitVec 32 := Scalar.subi v144 c1_i32_131
  let v160 : BitVec 32 := Scalar.select v158 v159 v144
  let v173 : Index := Scalar.indexCast v160
  let c2_i32_137 : BitVec 32 := 2#32
  let v174 : Index := Scalar.indexCast c2_i32_137
  let c0_138 : Index := 0#32
  ![v173.toNat, 2, 0]
def k0_off17 (k0_t1 : Fin k0_t1_loop.trips) (c0_i32_95 : BitVec 32) : Fin 3 → Nat :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let v112 : BitVec 32 := Scalar.addi v111 c0_i32_95
  let c0_i32_126 : BitVec 32 := 0#32
  let v145 : BitVec 1 := Scalar.cmpi .sgt v112 c0_i32_126
  let v146 : BitVec 32 := Scalar.extui v145
  let c0_i32_127 : BitVec 32 := 0#32
  let v147 : BitVec 1 := Scalar.cmpi .slt v112 c0_i32_127
  let v148 : BitVec 32 := Scalar.extui v147
  let v149 : BitVec 32 := Scalar.subi v146 v148
  let c8_i32 : BitVec 32 := 8#32
  let c0_i32_128 : BitVec 32 := 0#32
  let v150 : BitVec 1 := Scalar.cmpi .sgt c8_i32 c0_i32_128
  let v151 : BitVec 32 := Scalar.extui v150
  let c0_i32_129 : BitVec 32 := 0#32
  let v152 : BitVec 1 := Scalar.cmpi .slt c8_i32 c0_i32_129
  let v153 : BitVec 32 := Scalar.extui v152
  let v154 : BitVec 32 := Scalar.subi v151 v153
  let v155 : BitVec 1 := Scalar.cmpi .ne v149 v154
  let v156 : BitVec 32 := Scalar.remsi v112 c8_i32
  let c0_i32_130 : BitVec 32 := 0#32
  let v157 : BitVec 1 := Scalar.cmpi .ne v156 c0_i32_130
  let v158 : BitVec 1 := Scalar.andi v155 v157
  let v144 : BitVec 32 := Scalar.divsi v112 c8_i32
  let c1_i32_131 : BitVec 32 := 1#32
  let v159 : BitVec 32 := Scalar.subi v144 c1_i32_131
  let v160 : BitVec 32 := Scalar.select v158 v159 v144
  let v177 : Index := Scalar.indexCast v160
  let c3_i32_139 : BitVec 32 := 3#32
  let v178 : Index := Scalar.indexCast c3_i32_139
  let c0_140 : Index := 0#32
  ![v177.toNat, 3, 0]
@[reducible] def k0_t2_loop : Scf.Loop 32 :=
  let c0_i32_141 : BitVec 32 := 0#32
  let c128_i32 : BitVec 32 := 128#32
  let v181 : BitVec 32 := Scalar.addi c0_i32_141 c128_i32
  let c1_i32_142 : BitVec 32 := 1#32
  ⟨c0_i32_141, v181, c1_i32_142⟩
def k0_off18 (k0_t2 : Fin k0_t2_loop.trips) : Fin 3 → Nat :=
  let c0_i32_352 : BitVec 32 := 0#32
  let v510 : Index := Scalar.indexCast c0_i32_352
  let c0_i32_353 : BitVec 32 := 0#32
  let v511 : Index := Scalar.indexCast c0_i32_353
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v512 : Index := Scalar.indexCast v509
  ![0, 0, v512.toNat]
def k0_off19 (k0_t2 : Fin k0_t2_loop.trips) : Fin 3 → Nat :=
  let c0_i32_354 : BitVec 32 := 0#32
  let v515 : Index := Scalar.indexCast c0_i32_354
  let c1_i32_355 : BitVec 32 := 1#32
  let v516 : Index := Scalar.indexCast c1_i32_355
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v517 : Index := Scalar.indexCast v509
  ![0, 1, v517.toNat]
def k0_off20 (k0_t2 : Fin k0_t2_loop.trips) : Fin 2 → Nat :=
  let c0_i32_358 : BitVec 32 := 0#32
  let v527 : Index := Scalar.indexCast c0_i32_358
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v528 : Index := Scalar.indexCast v509
  ![0, v528.toNat]
def k0_off21 (k0_t2 : Fin k0_t2_loop.trips) : Fin 3 → Nat :=
  let c0_i32_360 : BitVec 32 := 0#32
  let v535 : Index := Scalar.indexCast c0_i32_360
  let c0_i32_361 : BitVec 32 := 0#32
  let v536 : Index := Scalar.indexCast c0_i32_361
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v537 : Index := Scalar.indexCast v509
  ![0, 0, v537.toNat]
def k0_off22 (k0_t2 : Fin k0_t2_loop.trips) : Fin 3 → Nat :=
  let c0_i32_363 : BitVec 32 := 0#32
  let v543 : Index := Scalar.indexCast c0_i32_363
  let c1_i32_364 : BitVec 32 := 1#32
  let v544 : Index := Scalar.indexCast c1_i32_364
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v545 : Index := Scalar.indexCast v509
  ![0, 1, v545.toNat]
def k0_off23 (k0_t2 : Fin k0_t2_loop.trips) : Fin 3 → Nat :=
  let c0_i32_366 : BitVec 32 := 0#32
  let v552 : Index := Scalar.indexCast c0_i32_366
  let c2_i32_367 : BitVec 32 := 2#32
  let v553 : Index := Scalar.indexCast c2_i32_367
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v554 : Index := Scalar.indexCast v509
  ![0, 2, v554.toNat]
def k0_off24 (k0_t2 : Fin k0_t2_loop.trips) : Fin 3 → Nat :=
  let c0_i32_369 : BitVec 32 := 0#32
  let v561 : Index := Scalar.indexCast c0_i32_369
  let c3_i32_370 : BitVec 32 := 3#32
  let v562 : Index := Scalar.indexCast c3_i32_370
  let c0_i32_351 : BitVec 32 := 0#32
  let c0_i32_141 : BitVec 32 := 0#32
  let c1_i32_142 : BitVec 32 := 1#32
  let arg29 : BitVec 32 := Scf.iv c0_i32_141 c1_i32_142 k0_t2
  let c16_i32 : BitVec 32 := 16#32
  let v508 : BitVec 32 := Scalar.muli arg29 c16_i32
  let v509 : BitVec 32 := Scalar.addi c0_i32_351 v508
  let v563 : Index := Scalar.indexCast v509
  ![0, 3, v563.toNat]
def k0_off25 (i : grid0.Coords) (k0_t1 : Fin k0_t1_loop.trips) (c0_i32_95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let v112 : BitVec 32 := Scalar.addi v111 c0_i32_95
  let c0_i32_145 : BitVec 32 := 0#32
  let v183 : BitVec 1 := Scalar.cmpi .sgt v112 c0_i32_145
  let v184 : BitVec 32 := Scalar.extui v183
  let c0_i32_146 : BitVec 32 := 0#32
  let v185 : BitVec 1 := Scalar.cmpi .slt v112 c0_i32_146
  let v186 : BitVec 32 := Scalar.extui v185
  let v187 : BitVec 32 := Scalar.subi v184 v186
  let c8_i32_144 : BitVec 32 := 8#32
  let c0_i32_147 : BitVec 32 := 0#32
  let v188 : BitVec 1 := Scalar.cmpi .sgt c8_i32_144 c0_i32_147
  let v189 : BitVec 32 := Scalar.extui v188
  let c0_i32_148 : BitVec 32 := 0#32
  let v190 : BitVec 1 := Scalar.cmpi .slt c8_i32_144 c0_i32_148
  let v191 : BitVec 32 := Scalar.extui v190
  let v192 : BitVec 32 := Scalar.subi v189 v191
  let v193 : BitVec 1 := Scalar.cmpi .ne v187 v192
  let v194 : BitVec 32 := Scalar.remsi v112 c8_i32_144
  let c0_i32_149 : BitVec 32 := 0#32
  let v195 : BitVec 1 := Scalar.cmpi .ne v194 c0_i32_149
  let v196 : BitVec 1 := Scalar.andi v193 v195
  let v182 : BitVec 32 := Scalar.divsi v112 c8_i32_144
  let c1_i32_150 : BitVec 32 := 1#32
  let v197 : BitVec 32 := Scalar.subi v182 c1_i32_150
  let v198 : BitVec 32 := Scalar.select v196 v197 v182
  let v201 : BitVec 32 := Scalar.addi v2 v198
  let c8_i32_151 : BitVec 32 := 8#32
  let v199 : BitVec 32 := Scalar.muli v198 c8_i32_151
  let v200 : BitVec 32 := Scalar.subi v112 v199
  let c2048_i32_152 : BitVec 32 := 2048#32
  let v202 : BitVec 32 := Scalar.muli v200 c2048_i32_152
  ![v201.toNat, v202.toNat]
def k0_cond3 (k0_t1 : Fin k0_t1_loop.trips) : BitVec 1 :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c1_i32_156 : BitVec 32 := 1#32
  let v211 : BitVec 32 := Scalar.addi v111 c1_i32_156
  let c3_i32_157 : BitVec 32 := 3#32
  let v212 : BitVec 32 := Scalar.addi v211 c3_i32_157
  let c256_i32_158 : BitVec 32 := 256#32
  let v213 : BitVec 1 := Scalar.cmpi .slt v212 c256_i32_158
  let v214 : BitVec 32 := Scalar.extui v213
  let c0_i32_159 : BitVec 32 := 0#32
  let v215 : BitVec 1 := Scalar.cmpi .ne v214 c0_i32_159
  v215

def k0_off26 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c1_i32_156 : BitVec 32 := 1#32
  let v211 : BitVec 32 := Scalar.addi v111 c1_i32_156
  let c3_i32_351 : BitVec 32 := 3#32
  let v508 : BitVec 32 := Scalar.addi v211 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_364 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off27 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c1_i32_156 : BitVec 32 := 1#32
  let v211 : BitVec 32 := Scalar.addi v111 c1_i32_156
  let c3_i32_351 : BitVec 32 := 3#32
  let v508 : BitVec 32 := Scalar.addi v211 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_371 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c1_i32_156 : BitVec 32 := 1#32
  let v211 : BitVec 32 := Scalar.addi v111 c1_i32_156
  let c3_i32_351 : BitVec 32 := 3#32
  let v508 : BitVec 32 := Scalar.addi v211 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, v529.toNat]
@[reducible] def k0_t3_loop : Scf.Loop 32 :=
  let c0_i32_205 : BitVec 32 := 0#32
  let c128_i32_206 : BitVec 32 := 128#32
  let v280 : BitVec 32 := Scalar.addi c0_i32_205 c128_i32_206
  let c1_i32_207 : BitVec 32 := 1#32
  ⟨c0_i32_205, v280, c1_i32_207⟩
def k0_off29 (k0_t3 : Fin k0_t3_loop.trips) : Fin 3 → Nat :=
  let c1_i32_352 : BitVec 32 := 1#32
  let v510 : Index := Scalar.indexCast c1_i32_352
  let c0_i32_353 : BitVec 32 := 0#32
  let v511 : Index := Scalar.indexCast c0_i32_353
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v512 : Index := Scalar.indexCast v509
  ![1, 0, v512.toNat]
def k0_off30 (k0_t3 : Fin k0_t3_loop.trips) : Fin 3 → Nat :=
  let c1_i32_354 : BitVec 32 := 1#32
  let v515 : Index := Scalar.indexCast c1_i32_354
  let c1_i32_355 : BitVec 32 := 1#32
  let v516 : Index := Scalar.indexCast c1_i32_355
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v517 : Index := Scalar.indexCast v509
  ![1, 1, v517.toNat]
def k0_off31 (k0_t3 : Fin k0_t3_loop.trips) : Fin 2 → Nat :=
  let c1_i32_358 : BitVec 32 := 1#32
  let v527 : Index := Scalar.indexCast c1_i32_358
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v528 : Index := Scalar.indexCast v509
  ![1, v528.toNat]
def k0_off32 (k0_t3 : Fin k0_t3_loop.trips) : Fin 3 → Nat :=
  let c1_i32_360 : BitVec 32 := 1#32
  let v535 : Index := Scalar.indexCast c1_i32_360
  let c0_i32_361 : BitVec 32 := 0#32
  let v536 : Index := Scalar.indexCast c0_i32_361
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v537 : Index := Scalar.indexCast v509
  ![1, 0, v537.toNat]
def k0_off33 (k0_t3 : Fin k0_t3_loop.trips) : Fin 3 → Nat :=
  let c1_i32_363 : BitVec 32 := 1#32
  let v543 : Index := Scalar.indexCast c1_i32_363
  let c1_i32_364 : BitVec 32 := 1#32
  let v544 : Index := Scalar.indexCast c1_i32_364
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v545 : Index := Scalar.indexCast v509
  ![1, 1, v545.toNat]
def k0_off34 (k0_t3 : Fin k0_t3_loop.trips) : Fin 3 → Nat :=
  let c1_i32_366 : BitVec 32 := 1#32
  let v552 : Index := Scalar.indexCast c1_i32_366
  let c2_i32_367 : BitVec 32 := 2#32
  let v553 : Index := Scalar.indexCast c2_i32_367
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v554 : Index := Scalar.indexCast v509
  ![1, 2, v554.toNat]
def k0_off35 (k0_t3 : Fin k0_t3_loop.trips) : Fin 3 → Nat :=
  let c1_i32_369 : BitVec 32 := 1#32
  let v561 : Index := Scalar.indexCast c1_i32_369
  let c3_i32_370 : BitVec 32 := 3#32
  let v562 : Index := Scalar.indexCast c3_i32_370
  let c0_i32_351 : BitVec 32 := 0#32
  let c0_i32_205 : BitVec 32 := 0#32
  let c1_i32_207 : BitVec 32 := 1#32
  let arg29 : BitVec 32 := Scf.iv c0_i32_205 c1_i32_207 k0_t3
  let c16_i32 : BitVec 32 := 16#32
  let v508 : BitVec 32 := Scalar.muli arg29 c16_i32
  let v509 : BitVec 32 := Scalar.addi c0_i32_351 v508
  let v563 : Index := Scalar.indexCast v509
  ![1, 3, v563.toNat]
def k0_cond5 (k0_t1 : Fin k0_t1_loop.trips) : BitVec 1 :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c2_i32_221 : BitVec 32 := 2#32
  let v310 : BitVec 32 := Scalar.addi v111 c2_i32_221
  let c3_i32_222 : BitVec 32 := 3#32
  let v311 : BitVec 32 := Scalar.addi v310 c3_i32_222
  let c256_i32_223 : BitVec 32 := 256#32
  let v312 : BitVec 1 := Scalar.cmpi .slt v311 c256_i32_223
  let v313 : BitVec 32 := Scalar.extui v312
  let c0_i32_224 : BitVec 32 := 0#32
  let v314 : BitVec 1 := Scalar.cmpi .ne v313 c0_i32_224
  v314

def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c2_i32_221 : BitVec 32 := 2#32
  let v310 : BitVec 32 := Scalar.addi v111 c2_i32_221
  let c3_i32_351 : BitVec 32 := 3#32
  let v508 : BitVec 32 := Scalar.addi v310 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_364 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c2_i32_221 : BitVec 32 := 2#32
  let v310 : BitVec 32 := Scalar.addi v111 c2_i32_221
  let c3_i32_351 : BitVec 32 := 3#32
  let v508 : BitVec 32 := Scalar.addi v310 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_371 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off38 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c2_i32_221 : BitVec 32 := 2#32
  let v310 : BitVec 32 := Scalar.addi v111 c2_i32_221
  let c3_i32_351 : BitVec 32 := 3#32
  let v508 : BitVec 32 := Scalar.addi v310 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, v529.toNat]
@[reducible] def k0_t4_loop : Scf.Loop 32 :=
  let c0_i32_270 : BitVec 32 := 0#32
  let c128_i32_271 : BitVec 32 := 128#32
  let v379 : BitVec 32 := Scalar.addi c0_i32_270 c128_i32_271
  let c1_i32_272 : BitVec 32 := 1#32
  ⟨c0_i32_270, v379, c1_i32_272⟩
def k0_off39 (k0_t4 : Fin k0_t4_loop.trips) : Fin 3 → Nat :=
  let c2_i32_352 : BitVec 32 := 2#32
  let v510 : Index := Scalar.indexCast c2_i32_352
  let c0_i32_353 : BitVec 32 := 0#32
  let v511 : Index := Scalar.indexCast c0_i32_353
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v512 : Index := Scalar.indexCast v509
  ![2, 0, v512.toNat]
def k0_off40 (k0_t4 : Fin k0_t4_loop.trips) : Fin 3 → Nat :=
  let c2_i32_354 : BitVec 32 := 2#32
  let v515 : Index := Scalar.indexCast c2_i32_354
  let c1_i32_355 : BitVec 32 := 1#32
  let v516 : Index := Scalar.indexCast c1_i32_355
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v517 : Index := Scalar.indexCast v509
  ![2, 1, v517.toNat]
def k0_off41 (k0_t4 : Fin k0_t4_loop.trips) : Fin 2 → Nat :=
  let c2_i32_358 : BitVec 32 := 2#32
  let v527 : Index := Scalar.indexCast c2_i32_358
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v528 : Index := Scalar.indexCast v509
  ![2, v528.toNat]
def k0_off42 (k0_t4 : Fin k0_t4_loop.trips) : Fin 3 → Nat :=
  let c2_i32_360 : BitVec 32 := 2#32
  let v535 : Index := Scalar.indexCast c2_i32_360
  let c0_i32_361 : BitVec 32 := 0#32
  let v536 : Index := Scalar.indexCast c0_i32_361
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v537 : Index := Scalar.indexCast v509
  ![2, 0, v537.toNat]
def k0_off43 (k0_t4 : Fin k0_t4_loop.trips) : Fin 3 → Nat :=
  let c2_i32_363 : BitVec 32 := 2#32
  let v543 : Index := Scalar.indexCast c2_i32_363
  let c1_i32_364 : BitVec 32 := 1#32
  let v544 : Index := Scalar.indexCast c1_i32_364
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v545 : Index := Scalar.indexCast v509
  ![2, 1, v545.toNat]
def k0_off44 (k0_t4 : Fin k0_t4_loop.trips) : Fin 3 → Nat :=
  let c2_i32_366 : BitVec 32 := 2#32
  let v552 : Index := Scalar.indexCast c2_i32_366
  let c2_i32_367 : BitVec 32 := 2#32
  let v553 : Index := Scalar.indexCast c2_i32_367
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v554 : Index := Scalar.indexCast v509
  ![2, 2, v554.toNat]
def k0_off45 (k0_t4 : Fin k0_t4_loop.trips) : Fin 3 → Nat :=
  let c2_i32_369 : BitVec 32 := 2#32
  let v561 : Index := Scalar.indexCast c2_i32_369
  let c3_i32_370 : BitVec 32 := 3#32
  let v562 : Index := Scalar.indexCast c3_i32_370
  let c0_i32_351 : BitVec 32 := 0#32
  let c0_i32_270 : BitVec 32 := 0#32
  let c1_i32_272 : BitVec 32 := 1#32
  let arg29 : BitVec 32 := Scf.iv c0_i32_270 c1_i32_272 k0_t4
  let c16_i32 : BitVec 32 := 16#32
  let v508 : BitVec 32 := Scalar.muli arg29 c16_i32
  let v509 : BitVec 32 := Scalar.addi c0_i32_351 v508
  let v563 : Index := Scalar.indexCast v509
  ![2, 3, v563.toNat]
def k0_cond7 (k0_t1 : Fin k0_t1_loop.trips) : BitVec 1 :=
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c3_i32_286 : BitVec 32 := 3#32
  let v409 : BitVec 32 := Scalar.addi v111 c3_i32_286
  let c3_i32_287 : BitVec 32 := 3#32
  let v410 : BitVec 32 := Scalar.addi v409 c3_i32_287
  let c256_i32_288 : BitVec 32 := 256#32
  let v411 : BitVec 1 := Scalar.cmpi .slt v410 c256_i32_288
  let v412 : BitVec 32 := Scalar.extui v411
  let c0_i32_289 : BitVec 32 := 0#32
  let v413 : BitVec 1 := Scalar.cmpi .ne v412 c0_i32_289
  v413

def k0_off46 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c3_i32_286 : BitVec 32 := 3#32
  let v409 : BitVec 32 := Scalar.addi v111 c3_i32_286
  let c3_i32_351 : BitVec 32 := 3#32
  let v508 : BitVec 32 := Scalar.addi v409 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_364 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off47 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c3_i32_286 : BitVec 32 := 3#32
  let v409 : BitVec 32 := Scalar.addi v111 c3_i32_286
  let c3_i32_351 : BitVec 32 := 3#32
  let v508 : BitVec 32 := Scalar.addi v409 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c0_i32_371 : BitVec 32 := 0#32
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, 0, v529.toNat]
def k0_off48 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_69 : BitVec 32 := 0#32
  let c1_i32_70 : BitVec 32 := 1#32
  let arg28 : BitVec 32 := Scf.iv c0_i32_69 c1_i32_70 k0_t1
  let c4_i32 : BitVec 32 := 4#32
  let v111 : BitVec 32 := Scalar.muli arg28 c4_i32
  let c3_i32_286 : BitVec 32 := 3#32
  let v409 : BitVec 32 := Scalar.addi v111 c3_i32_286
  let c3_i32_351 : BitVec 32 := 3#32
  let v508 : BitVec 32 := Scalar.addi v409 c3_i32_351
  let c0_i32_353 : BitVec 32 := 0#32
  let v510 : BitVec 1 := Scalar.cmpi .sgt v508 c0_i32_353
  let v511 : BitVec 32 := Scalar.extui v510
  let c0_i32_354 : BitVec 32 := 0#32
  let v512 : BitVec 1 := Scalar.cmpi .slt v508 c0_i32_354
  let v513 : BitVec 32 := Scalar.extui v512
  let v514 : BitVec 32 := Scalar.subi v511 v513
  let c8_i32_352 : BitVec 32 := 8#32
  let c0_i32_355 : BitVec 32 := 0#32
  let v515 : BitVec 1 := Scalar.cmpi .sgt c8_i32_352 c0_i32_355
  let v516 : BitVec 32 := Scalar.extui v515
  let c0_i32_356 : BitVec 32 := 0#32
  let v517 : BitVec 1 := Scalar.cmpi .slt c8_i32_352 c0_i32_356
  let v518 : BitVec 32 := Scalar.extui v517
  let v519 : BitVec 32 := Scalar.subi v516 v518
  let v520 : BitVec 1 := Scalar.cmpi .ne v514 v519
  let v521 : BitVec 32 := Scalar.remsi v508 c8_i32_352
  let c0_i32_357 : BitVec 32 := 0#32
  let v522 : BitVec 1 := Scalar.cmpi .ne v521 c0_i32_357
  let v523 : BitVec 1 := Scalar.andi v520 v522
  let v509 : BitVec 32 := Scalar.divsi v508 c8_i32_352
  let c1_i32_358 : BitVec 32 := 1#32
  let v524 : BitVec 32 := Scalar.subi v509 c1_i32_358
  let v525 : BitVec 32 := Scalar.select v523 v524 v509
  let v528 : BitVec 32 := Scalar.addi v2 v525
  let c8_i32_359 : BitVec 32 := 8#32
  let v526 : BitVec 32 := Scalar.muli v525 c8_i32_359
  let v527 : BitVec 32 := Scalar.subi v508 v526
  let c2048_i32_360 : BitVec 32 := 2048#32
  let v529 : BitVec 32 := Scalar.muli v527 c2048_i32_360
  ![v528.toNat, v529.toNat]
@[reducible] def k0_t5_loop : Scf.Loop 32 :=
  let c0_i32_335 : BitVec 32 := 0#32
  let c128_i32_336 : BitVec 32 := 128#32
  let v478 : BitVec 32 := Scalar.addi c0_i32_335 c128_i32_336
  let c1_i32_337 : BitVec 32 := 1#32
  ⟨c0_i32_335, v478, c1_i32_337⟩
def k0_off49 (k0_t5 : Fin k0_t5_loop.trips) : Fin 3 → Nat :=
  let c3_i32_352 : BitVec 32 := 3#32
  let v510 : Index := Scalar.indexCast c3_i32_352
  let c0_i32_353 : BitVec 32 := 0#32
  let v511 : Index := Scalar.indexCast c0_i32_353
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v512 : Index := Scalar.indexCast v509
  ![3, 0, v512.toNat]
def k0_off50 (k0_t5 : Fin k0_t5_loop.trips) : Fin 3 → Nat :=
  let c3_i32_354 : BitVec 32 := 3#32
  let v515 : Index := Scalar.indexCast c3_i32_354
  let c1_i32_355 : BitVec 32 := 1#32
  let v516 : Index := Scalar.indexCast c1_i32_355
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v517 : Index := Scalar.indexCast v509
  ![3, 1, v517.toNat]
def k0_off51 (k0_t5 : Fin k0_t5_loop.trips) : Fin 2 → Nat :=
  let c3_i32_358 : BitVec 32 := 3#32
  let v527 : Index := Scalar.indexCast c3_i32_358
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v528 : Index := Scalar.indexCast v509
  ![3, v528.toNat]
def k0_off52 (k0_t5 : Fin k0_t5_loop.trips) : Fin 3 → Nat :=
  let c3_i32_360 : BitVec 32 := 3#32
  let v535 : Index := Scalar.indexCast c3_i32_360
  let c0_i32_361 : BitVec 32 := 0#32
  let v536 : Index := Scalar.indexCast c0_i32_361
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v537 : Index := Scalar.indexCast v509
  ![3, 0, v537.toNat]
def k0_off53 (k0_t5 : Fin k0_t5_loop.trips) : Fin 3 → Nat :=
  let c3_i32_363 : BitVec 32 := 3#32
  let v543 : Index := Scalar.indexCast c3_i32_363
  let c1_i32_364 : BitVec 32 := 1#32
  let v544 : Index := Scalar.indexCast c1_i32_364
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v545 : Index := Scalar.indexCast v509
  ![3, 1, v545.toNat]
def k0_off54 (k0_t5 : Fin k0_t5_loop.trips) : Fin 3 → Nat :=
  let c3_i32_366 : BitVec 32 := 3#32
  let v552 : Index := Scalar.indexCast c3_i32_366
  let c2_i32_367 : BitVec 32 := 2#32
  let v553 : Index := Scalar.indexCast c2_i32_367
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v554 : Index := Scalar.indexCast v509
  ![3, 2, v554.toNat]
def k0_off55 (k0_t5 : Fin k0_t5_loop.trips) : Fin 3 → Nat :=
  let c3_i32_369 : BitVec 32 := 3#32
  let v561 : Index := Scalar.indexCast c3_i32_369
  let c3_i32_370 : BitVec 32 := 3#32
  let v562 : Index := Scalar.indexCast c3_i32_370
  let c0_i32_351 : BitVec 32 := 0#32
  let c0_i32_335 : BitVec 32 := 0#32
  let c1_i32_337 : BitVec 32 := 1#32
  let arg29 : BitVec 32 := Scf.iv c0_i32_335 c1_i32_337 k0_t5
  let c16_i32 : BitVec 32 := 16#32
  let v508 : BitVec 32 := Scalar.muli arg29 c16_i32
  let v509 : BitVec 32 := Scalar.addi c0_i32_351 v508
  let v563 : Index := Scalar.indexCast v509
  ![3, 3, v563.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x2x16384 : Shape := ⟨3, ![1024, 2, 16384]⟩
abbrev S1024x4 : Shape := ⟨2, ![1024, 4]⟩
abbrev S1024x4x16384 : Shape := ⟨3, ![1024, 4, 16384]⟩
abbrev S1024x16384 : Shape := ⟨2, ![1024, 16384]⟩
abbrev S_ : Shape := ⟨0, ![]⟩
abbrev S1024x1x16384 : Shape := ⟨3, ![1024, 1, 16384]⟩
abbrev S1024x4x1 : Shape := ⟨3, ![1024, 4, 1]⟩

abbrev nBuf : Space → Nat
  | .hbm => 46
  | .vmem => 0
  | .smem => 0
  | _ => 0

abbrev bufTy : (tb : Table) → Fin (tcTables nBuf tb) → BufTy
  | .hbm, ⟨0, _⟩ => ⟨S1024x2x16384, .f32⟩
  | .hbm, ⟨1, _⟩ => ⟨S1024x4, .f32⟩
  | .hbm, ⟨2, _⟩ => ⟨S1024x4x16384, .f32⟩
  | .hbm, ⟨3, _⟩ => ⟨S1024x16384, .f32⟩
  | .hbm, ⟨4, _⟩ => ⟨S_, .f32⟩
  | .hbm, ⟨5, _⟩ => ⟨S1024x2x16384, .f32⟩
  | .hbm, ⟨6, _⟩ => ⟨S1024x2x16384, .f32⟩
  | .hbm, ⟨7, _⟩ => ⟨S1024x1x16384, .f32⟩
  | .hbm, ⟨8, _⟩ => ⟨S1024x16384, .f32⟩
  | .hbm, ⟨9, _⟩ => ⟨S1024x1x16384, .f32⟩
  | .hbm, ⟨10, _⟩ => ⟨S1024x16384, .f32⟩
  | .hbm, ⟨11, _⟩ => ⟨S1024x16384, .f32⟩
  | .hbm, ⟨12, _⟩ => ⟨S_, .f32⟩
  | .hbm, ⟨13, _⟩ => ⟨S1024x16384, .f32⟩
  | .hbm, ⟨14, _⟩ => ⟨S1024x16384, .f32⟩
  | .hbm, ⟨15, _⟩ => ⟨S_, .f32⟩
  | .hbm, ⟨16, _⟩ => ⟨S1024x16384, .f32⟩
  | .hbm, ⟨17, _⟩ => ⟨S1024x16384, .f32⟩
  | .hbm, ⟨18, _⟩ => ⟨S1024x16384, .f32⟩
  | .hbm, ⟨19, _⟩ => ⟨S1024x16384, .f32⟩
  | .hbm, ⟨20, _⟩ => ⟨S1024x4x1, .f32⟩
  | .hbm, ⟨21, _⟩ => ⟨S1024x4x16384, .f32⟩
  | .hbm, ⟨22, _⟩ => ⟨S1024x4x16384, .f32⟩
  | .hbm, ⟨23, _⟩ => ⟨S_, .f32⟩
  | .hbm, ⟨24, _⟩ => ⟨S1024x4x16384, .f32⟩
  | .hbm, ⟨25, _⟩ => ⟨S1024x4x16384, .f32⟩
  | .hbm, ⟨26, _⟩ => ⟨S1024x1x16384, .f32⟩
  | .hbm, ⟨27, _⟩ => ⟨S1024x16384, .f32⟩
  | .hbm, ⟨28, _⟩ => ⟨S1024x1x16384, .f32⟩
  | .hbm, ⟨29, _⟩ => ⟨S1024x16384, .f32⟩
  | .hbm, ⟨30, _⟩ => ⟨S1024x16384, .f32⟩
  | .hbm, ⟨31, _⟩ => ⟨S1024x1x16384, .f32⟩
  | .hbm, ⟨32, _⟩ => ⟨S1024x16384, .f32⟩
  | .hbm, ⟨33, _⟩ => ⟨S1024x16384, .f32⟩
  | .hbm, ⟨34, _⟩ => ⟨S1024x1x16384, .f32⟩
  | .hbm, ⟨35, _⟩ => ⟨S1024x16384, .f32⟩
  | .hbm, ⟨36, _⟩ => ⟨S1024x16384, .f32⟩
  | .hbm, ⟨37, _⟩ => ⟨S1024x16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1024x16384, .f32⟩
  | .hbm, ⟨42, _⟩ => ⟨S1024x16384, .f32⟩
  | .hbm, ⟨43, _⟩ => ⟨S_, .f32⟩
  | .hbm, ⟨44, _⟩ => ⟨S1024x16384, .f32⟩
  | .hbm, ⟨45, _⟩ => ⟨S1024x16384, .f32⟩
  | _, _ => ⟨S1024x2x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.Setup.lean ====
/-
  The program as the SparseCore launch theorem sees it, the names the other modules use for its buffers, semaphores
  and locations, and what every buffer is to hold: the result array `outG` cell by cell, and the block of each input
  and of the result that belongs to one task.
-/
module

public import proofs.«01_k».proof.Defs
public import Idealize.ShloMosaic.Lib.SparseCore.Quiescent
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, and the counters of copies in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- Where the counters of the copies in flight live. -/
abbrev EC : UEmb Counters (MT nD τ sig (HIx 1) (Elt F) ℕ UU ℕ) := countersEmb (U := UU)

/-! ## The arrays' locations and the tiles' threads -/

abbrev wwLoc (d : Dev nD) : Loc nD τ sig := (SparseCore.T d).loc main_arg0
abbrev fgLoc (d : Dev nD) : Loc nD τ sig := (SparseCore.T d).loc main_arg1
abbrev rwLoc (d : Dev nD) : Loc nD τ sig := (SparseCore.T d).loc main_arg2
abbrev puLoc (d : Dev nD) : Loc nD τ sig := (SparseCore.T d).loc main_arg3
abbrev fxLoc (d : Dev nD) : Loc nD τ sig := (SparseCore.T d).loc main_v1
abbrev ouLoc (d : Dev nD) : Loc nD τ sig := (SparseCore.T d).loc main_v2

/-- The tile whose coordinates (SparseCore, subcore) are `L`, as a thread of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev wwA : Memref sig .scVector .hbm S1024x2x16384 .f32 := Memref.whole main_arg0_scv
abbrev fxA : Memref sig .scVector .hbm S1024x4x16 .f32 := Memref.whole main_v1_scv
abbrev rwA : Memref sig .scVector .hbm S1024x4x16384 .f32 := Memref.whole main_arg2_scv
abbrev puA : Memref sig .scVector .hbm S1024x16384 .f32 := Memref.whole main_arg3_scv
abbrev ouA : Memref sig .scVector .hbm S1024x16384 .f32 := Memref.whole main_v2_scv
abbrev fgV : Memref sig .scVector .vmem S32x4x16 .f32 := Memref.whole cc0_scratch0
abbrev wwV : Memref sig .scVector .vmem S4x2x2048 .f32 := Memref.whole cc0_scratch1
abbrev rwV : Memref sig .scVector .vmem S4x4x2048 .f32 := Memref.whole cc0_scratch2
abbrev puV : Memref sig .scVector .vmem S4x2048 .f32 := Memref.whole cc0_scratch3
abbrev ouV : Memref sig .scVector .vmem S4x2048 .f32 := Memref.whole cc0_scratch4

/-! ## The slots of a tile's ring -/

/-- The DMA semaphore of each slot, one array of four for each kind of copy. -/
def semWW : Fin 4 → DmaSem sig
  | 0 => cc0_scratch5.sem | 1 => cc0_scratch6.sem | 2 => cc0_scratch7.sem | 3 => cc0_scratch8.sem
def semRW : Fin 4 → DmaSem sig
  | 0 => cc0_scratch9.sem | 1 => cc0_scratch10.sem | 2 => cc0_scratch11.sem | 3 => cc0_scratch12.sem
def semPU : Fin 4 → DmaSem sig
  | 0 => cc0_scratch13.sem | 1 => cc0_scratch14.sem | 2 => cc0_scratch15.sem | 3 => cc0_scratch16.sem
def semOU : Fin 4 → DmaSem sig
  | 0 => cc0_scratch17.sem | 1 => cc0_scratch18.sem | 2 => cc0_scratch19.sem | 3 => cc0_scratch20.sem

theorem inbWW (s : Fin 4) : ∀ a, (![s.val, 0, 0] : Fin 3 → Nat) a + S1x2x2048.size a ≤ S4x2x2048.size a := by
  revert s; decide
theorem inbRW (s : Fin 4) : ∀ a, (![s.val, 0, 0] : Fin 3 → Nat) a + S1x4x2048.size a ≤ S4x4x2048.size a := by
  revert s; decide
theorem inbPU (s : Fin 4) : ∀ a, (![s.val, 0] : Fin 2 → Nat) a + S1x2048.size a ≤ S4x2048.size a := by
  revert s; decide

/-- Slot `s` of each scratch, as the program slices it. -/
abbrev wwS (s : Fin 4) : Memref sig .scVector .vmem S2x2048 .f32 :=
  (wwV.slice (Rect.unit (s := S4x2x2048) ![s.val, 0, 0] S1x2x2048.size (inbWW s)) (fun _ => rfl)).squeeze S2x2048 squeezes_S1x2x2048_S2x2048
abbrev rwS (s : Fin 4) : Memref sig .scVector .vmem S4x2048 .f32 :=
  (rwV.slice (Rect.unit (s := S4x4x2048) ![s.val, 0, 0] S1x4x2048.size (inbRW s)) (fun _ => rfl)).squeeze S4x2048 squeezes_S1x4x2048_S4x2048
abbrev puS (s : Fin 4) : Memref sig .scVector .vmem S2048 .f32 :=
  (puV.slice (Rect.unit (s := S4x2048) ![s.val, 0] S1x2048.size (inbPU s)) (fun _ => rfl)).squeeze S2048 squeezes_S1x2048_S2048
abbrev ouS (s : Fin 4) : Memref sig .scVector .vmem S2048 .f32 :=
  (ouV.slice (Rect.unit (s := S4x2048) ![s.val, 0] S1x2048.size (inbPU s)) (fun _ => rfl)).squeeze S2048 squeezes_S1x2048_S2048

/-- Every cell of slot `s`. -/
def setWW (s : Fin 4) : Finset S4x2x2048.Idx := Finset.univ.filter fun j => (j 0).val = s.val
def setRW (s : Fin 4) : Finset S4x4x2048.Idx := Finset.univ.filter fun j => (j 0).val = s.val
def setPU (s : Fin 4) : Finset S4x2048.Idx := Finset.univ.filter fun j => (j 0).val = s.val

/-- The cells of one leading coordinate of a rank-3 array, as the unit rectangle there. -/
theorem set_lead3 {n a b : ℕ} (o : ℕ) (inb : ∀ x, (![o, 0, 0] : Fin 3 → Nat) x + (![1, a, b] : Fin 3 → Nat) x ≤ (⟨3, ![n, a, b]⟩ : Shape).size x) :
    (Rect.unit (s := ⟨3, ![n, a, b]⟩) ![o, 0, 0] ![1, a, b] inb).set = Finset.univ.filter fun j => (j 0).val = o := by
  ext j
  rw [Rect.mem_set_unit, Finset.mem_filter]
  constructor
  · intro h
    have h0 : o ≤ (j 0).val ∧ (j 0).val < o + 1 := h 0
    exact ⟨Finset.mem_univ _, by omega⟩
  · rintro ⟨-, h⟩ x
    have h1 : (j 1).val < b + a := lt_of_lt_of_le (j 1).isLt (Nat.le_add_left a b)
    match x with
    | ⟨0, _⟩ => exact ⟨le_of_eq h.symm, by show (j 0).val < o + 1; omega⟩
    | ⟨1, _⟩ => exact ⟨Nat.zero_le _, by show (j 1).val < 0 + a; rw [Nat.zero_add]; exact (j 1).isLt⟩
    | ⟨2, _⟩ => exact ⟨Nat.zero_le _, by show (j 2).val < 0 + b; rw [Nat.zero_add]; exact (j 2).isLt⟩

/-- The same for a rank-2 array. -/
theorem set_lead2 {n a : ℕ} (o : ℕ) (inb : ∀ x, (![o, 0] : Fin 2 → Nat) x + (![1, a] : Fin 2 → Nat) x ≤ (⟨2, ![n, a]⟩ : Shape).size x) :
    (Rect.unit (s := ⟨2, ![n, a]⟩) ![o, 0] ![1, a] inb).set = Finset.univ.filter fun j => (j 0).val = o := by
  ext j
  rw [Rect.mem_set_unit, Finset.mem_filter]
  constructor
  · intro h
    have h0 : o ≤ (j 0).val ∧ (j 0).val < o + 1 := h 0
    exact ⟨Finset.mem_univ _, by omega⟩
  · rintro ⟨-, h⟩ x
    match x with
    | ⟨0, _⟩ => exact ⟨le_of_eq h.symm, by show (j 0).val < o + 1; omega⟩
    | ⟨1, _⟩ => exact ⟨Nat.zero_le _, by show (j 1).val < 0 + a; rw [Nat.zero_add]; exact (j 1).isLt⟩

theorem set_wwS (s : Fin 4) : (wwS s).view.set = setWW s := by
  rw [View.set_reshape, View.set_slice_whole]; exact set_lead3 s.val (inbWW s)
theorem set_rwS (s : Fin 4) : (rwS s).view.set = setRW s := by
  rw [View.set_reshape, View.set_slice_whole]; exact set_lead3 s.val (inbRW s)
theorem set_puS (s : Fin 4) : (puS s).view.set = setPU s := by
  rw [View.set_reshape, View.set_slice_whole]; exact set_lead2 s.val (inbPU s)
theorem set_ouS (s : Fin 4) : (ouS s).view.set = setPU s := by
  rw [View.set_reshape, View.set_slice_whole]; exact set_lead2 s.val (inbPU s)

/-! ## What the arrays hold -/

/-- The four input arrays' contents. -/
structure Ins (F : FTy → Type) where
  ww : S1024x2x16384.Idx → F .f32
  fg : S1024x4.Idx → F .f32
  rw : S1024x4x16384.Idx → F .f32
  pu : S1024x16384.Idx → F .f32

section Values

variable [FloatOps F]

/-- The constants one and zero. -/
abbrev one : F .f32 := Scalar.ofBits .f32 0x3F800000#32
abbrev zero : F .f32 := Scalar.ofBits .f32 0x00000000#32

/-- One factor of the retention: one minus gate times read weight. -/
def keepF (f r : F .f32) : F .f32 := FloatOps.subf one (FloatOps.mulf f r)

/-- The previous usage with the two writes' weights added in. -/
def written (w0 w1 p : F .f32) : F .f32 :=
  FloatOps.addf p (FloatOps.mulf (FloatOps.subf one p) (FloatOps.subf one (FloatOps.mulf (FloatOps.subf one w0) (FloatOps.subf one w1))))

/-- One cell of the result. -/
def cell (w0 w1 p f0 r0 f1 r1 f2 r2 f3 r3 : F .f32) : F .f32 :=
  FloatOps.minimumf (FloatOps.maximumf (FloatOps.mulf (written w0 w1 p)
    (FloatOps.mulf (FloatOps.mulf (FloatOps.mulf (keepF f0 r0) (keepF f1 r1)) (keepF f2 r2)) (keepF f3 r3))) zero) one

/-- The result at row `r` and column `c`. -/
def outAt (A : Ins F) (r : Fin 1024) (c : Fin 16384) : F .f32 :=
  cell (A.ww (ix3 r 0 c)) (A.ww (ix3 r 1 c)) (A.pu (ix2 r c)) (A.fg (ix2 r 0)) (A.rw (ix3 r 0 c)) (A.fg (ix2 r 1)) (A.rw (ix3 r 1 c))
    (A.fg (ix2 r 2)) (A.rw (ix3 r 2 c)) (A.fg (ix2 r 3)) (A.rw (ix3 r 3 c))

/-- The whole result. -/
def outG (A : Ins F) : S1024x16384.Idx → F .f32 := fun j => outAt A (j 0) (j 1)

end Values

/-- The gates spread over sixteen lanes, as the host hands them to the kernel. -/
def fgX (A : Ins F) : S1024x4x16.Idx → F .f32 := fun j => A.fg (ix2 (j 0) (j 1))

/-! ## A tile's tasks: task `t` is row `base + t / 8`, columns from `2048 * (t % 8)` -/

/-- The first row of a tile. -/
def base (L : grid0.Coords) : ℕ := 64 * (L 1).val + 32 * (L 0).val

theorem base_le (L : grid0.Coords) : base L ≤ 992 := by
  have h0 : (L 0).val < 2 := (L 0).isLt
  have h1 : (L 1).val < 16 := (L 1).isLt
  unfold base; omega

def row (L : grid0.Coords) (t : ℕ) : Fin 1024 := ⟨(base L + t / 8) % 1024, Nat.mod_lt _ (by decide)⟩
def col (t : ℕ) (x : Fin 2048) : Fin 16384 := ⟨2048 * (t % 8) + x.val, by omega⟩

/-- What a slot of each scratch is to hold for task `t`; and the tile's gates. -/
def wwC (A : Ins F) (L : grid0.Coords) (t : ℕ) : S4x2x2048.Idx → F .f32 := fun j => A.ww (ix3 (row L t) (j 1) (col t (j 2)))
def rwC (A : Ins F) (L : grid0.Coords) (t : ℕ) : S4x4x2048.Idx → F .f32 := fun j => A.rw (ix3 (row L t) (j 1) (col t (j 2)))
def puC (A : Ins F) (L : grid0.Coords) (t : ℕ) : S4x2048.Idx → F .f32 := fun j => A.pu (ix2 (row L t) (col t (j 1)))
def ouC [FloatOps F] (A : Ins F) (L : grid0.Coords) (t : ℕ) : S4x2048.Idx → F .f32 := fun j => outAt A (row L t) (col t (j 1))
def fgC (A : Ins F) (L : grid0.Coords) : S32x4x16.Idx → F .f32 := fun j => A.fg (ix2 (row L (8 * (j 0).val)) (j 1))

end Cert.Proof.Usage
-- ==== Proof.Copies.lean ====
/-
  The rules a tile's copies go by, stated for one operation at a time: a copy out of a read share of a whole array, a
  copy of exactly the cells it reads, and the wait for either. A copy's contents are given as what the destination is
  to hold, once and for all, with the equation that the copy writes just that.
-/
module

public import proofs.«01_k».proof.Proof.Setup

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.ShloMosaic.Transfers (Flight Flight_mono wp_dmaLocal wp_dmaFromWhole wp_waitLocalO MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

section Leaves

variable {Λ : Labels} {defs : Defs nD τ sig (Elt F) Λ} {𝒲 : Variants} {c : Thread nD τ} {bd : Option 𝒲.V} {Q : PUnit.{1} → sProp (MT nD τ sig (HIx 1) (Elt F) ℕ UU ℕ)}
variable {sp sp' : Space} {s : Shape} {e : EltTy}

/-- What a thread owes while it copies: what it owed at the start, no wait recorded beyond those of the start but its
    own copies'; and the right to wait for these. -/
def Owing (c : Thread nD τ) (O : CellTallies nD τ sig (HIx 1)) (W : Waits sig (HIx 1)) : sProp 𝕄 :=
  iprop(MayWaits c none O ∗ ∃ W', ⌜∀ p ∈ W', p ∈ W ∨ p.2 = none⌝ ∗ owes c O W')

/-- The contents a copy leaves in its destination: where the destination is to hold `C`, and `C` seen through the
    destination is what the source holds, the copy writes `C`. -/
theorem written_eq (src : Memref sig c.2.kind sp s e) (dst : Memref sig c.2.kind sp' s e)
    {fs : Buf (Elt F) (src.view.loc c)} {fd C : Buf (Elt F) (dst.view.loc c)}
    (hC : dst.view.read (Elt F) C = src.view.read (Elt F) fs) :
    ∀ i ∈ dst.view.set, dst.view.write (Elt F) fd (src.view.read (Elt F) fs) Finset.univ i = C i := by
  intro i hi
  rw [← hC, View.write_read_eq_piecewise, Finset.piecewise_eq_of_mem]
  exact hi

/-- A copy out of an array of which a share is held whole, into cells held in full. -/
theorem issue_whole {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {q : PosShare TreeShare} {fs : Buf (Elt F) (src.view.loc c)} {C : Buf (Elt F) (dst.view.loc c)}
    (hs : 0 < s.numel) (hC : dst.view.read (Elt F) C = src.view.read (Elt F) fs) :
    iprop((src.view.loc c ↦{q} fs) ∗ (∃ fd, dst.view.loc c ↦[dst.view.set]{fullShare} fd) ∗ semVal (c, .dma sm) 0)
      ⊢ iprop((Flight EC c (.dma sm) none dst.view.dmaCredit iprop((dst.view.loc c ↦[dst.view.set]{fullShare} C) ∗ (src.view.loc c ↦{q} fs)) -∗ Q ⟨⟩)
          -∗ wp frame (wpE defs 𝒲 c bd) Set.univ (Prog.lift (.enqueueDma src (.here dst) (.dma sm) hsrc hdst hsem)) Q) := by
  iintro ⟨Hs, ⟨%fd, Hd⟩, Hv⟩ Hk
  iapply (wp_dmaFromWhole (EC (F := F)) 𝒲 c bd (src := src) (dst := dst) (sm := .dma sm) (hsrc := hsrc) (hdst := hdst) (hsem := hsem)
    (k := .ret) (via := .same) (q := q) (fs := fs) (fd := fd) (Sd := dst.view.set) none dst.view.dmaCredit rfl (View.dmaCredit_pos _ hs) (Finset.Subset.refl _)) $$ [Hs Hd Hv]
  · iframe Hs Hd Hv
  iintro Hf
  rw [wp_ret]; imodintro
  iapply Hk
  iapply (Flight_mono (EC (F := F)) c (sep_mono_left (Entails.of_eq (pointsTo_congr (written_eq src dst hC)))))
  iexact Hf

/-- A copy of cells held exactly, into cells held in full. -/
theorem issue_part {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {q : PosShare TreeShare} {fs : Buf (Elt F) (src.view.loc c)} {C : Buf (Elt F) (dst.view.loc c)}
    (hs : 0 < s.numel) (hC : dst.view.read (Elt F) C = src.view.read (Elt F) fs) :
    iprop((src.view.loc c ↦[src.view.set]{q} fs) ∗ (∃ fd, dst.view.loc c ↦[dst.view.set]{fullShare} fd) ∗ semVal (c, .dma sm) 0)
      ⊢ iprop((Flight EC c (.dma sm) none dst.view.dmaCredit iprop((dst.view.loc c ↦[dst.view.set]{fullShare} C) ∗ (src.view.loc c ↦[src.view.set]{q} fs)) -∗ Q ⟨⟩)
          -∗ wp frame (wpE defs 𝒲 c bd) Set.univ (Prog.lift (.enqueueDma src (.here dst) (.dma sm) hsrc hdst hsem)) Q) := by
  iintro ⟨Hs, ⟨%fd, Hd⟩, Hv⟩ Hk
  iapply (wp_dmaLocal (EC (F := F)) 𝒲 c bd (src := src) (dst := dst) (sm := .dma sm) (hsrc := hsrc) (hdst := hdst) (hsem := hsem)
    (k := .ret) (via := .same) (q := q) (fs := fs) (fd := fd) (Sd := dst.view.set) none dst.view.dmaCredit rfl (View.dmaCredit_pos _ hs) (Finset.Subset.refl _)) $$ [Hs Hd Hv]
  · iframe Hs Hd Hv
  iintro Hf
  rw [wp_ret]; imodintro
  iapply Hk
  iapply (Flight_mono (EC (F := F)) c (sep_mono_left (Entails.of_eq (pointsTo_congr (written_eq src dst hC)))))
  iexact Hf

/-- The wait for a copy in flight: what the copy was to hand over, its semaphore back at zero. -/
theorem wait_copy {s' : Shape} {e' : EltTy} {κ' : Kind} {sm : DmaSem sig}
    {srcw : Memref sig c.2.kind sp' s' e'} {dstw : Memref sig κ' sp s e} {hsrc : srcw.view.WordExact} {hdst : dstw.view.WordExact}
    {N : ℕ} (hN : dstw.view.dmaCredit = N) {D : sProp 𝕄} {O : CellTallies nD τ sig (HIx 1)} {W : Waits sig (HIx 1)} :
    iprop(Flight EC c (.dma sm) none N D ∗ Owing c O W)
      ⊢ iprop((iprop(D ∗ semVal (c, .dma sm) 0 ∗ Owing c O W) -∗ Q ⟨⟩)
          -∗ wp frame (wpE defs 𝒲 c bd) Set.univ (Prog.lift (.waitDma2 sm srcw dstw hsrc hdst)) Q) := by
  unfold Owing
  iintro ⟨Hf, ⟨#Hmw, %W', %hW', HO⟩⟩ Hk
  ihave Hm := (MayWaits.elim (SemLoc.dma sm)) $$ Hmw
  iapply (wp_waitLocalO (EC (F := F)) 𝒲 c bd (srcw := srcw) (dstw := dstw) (hsrc := hsrc) (hdst := hdst) (k := .ret) none hN) $$ [Hf HO Hm]
  · iframe Hf HO Hm
  iintro ⟨HD, Hv, HO⟩
  rw [wp_ret]; imodintro
  iapply Hk
  iframe HD Hv Hmw
  iexists (insert (SemLoc.dma sm, none) W')
  isplitr
  · ipureintro
    intro p hp
    rcases Finset.mem_insert.mp hp with h | h
    · exact .inr (by rw [h])
    · exact hW' p h
  iexact HO

end Leaves

end Cert.Proof.Usage
-- ==== Proof.Lanes.lean ====
/-
  The arithmetic of one trip of the inner loop: what the program stores, computed from the seven vectors it loads and
  the four gate vectors of the row, is one `cell` in every lane. One statement for each of the four phases of the ring,
  whose text computes the same through names of its own.
-/
module

public import proofs.«01_k».proof.Proof.Copies

@[expose] public section

noncomputable section

namespace Cert.Proof.Usage

open Cert.KernelIdeal Cert.KernelIdeal.Gen

open Idealize.ShloMosaic
open Idealize.ShloMosaic.ValueIdx (ix1 ix2 ix3)

variable {F : FTy → Type} [FloatOps F]

/-- The lane of a vector of sixteen that an index of the stored row names. -/
def lane (j : S1x16.Idx) : S16.Idx := ix1 (j 1)

/-- A vector of sixteen read through the shapes it is loaded and stored at. -/
theorem lane_of_row (h : S1x16.numel = S16.numel) (j : S1x16.Idx) : Shape.reshapeEquiv h j = lane j := by
  refine Shape.reshapeEquiv_eq_of_rowMajor h ?_
  revert j; decide

theorem lane_to_row (h : S16.numel = S1x16.numel) (j : S1x16.Idx) : Shape.reshapeEquiv h (lane j) = ix2 0 (j 1) := by
  refine Shape.reshapeEquiv_eq_of_rowMajor h ?_
  revert j; decide

theorem lane_to_block (h : S16.numel = S1x1x16.numel) (j : S1x16.Idx) : Shape.reshapeEquiv h (lane j) = ix3 0 0 (j 1) := by
  refine Shape.reshapeEquiv_eq_of_rowMajor h ?_
  revert j; decide

/-- What one trip stores: in each lane the cell of the lane's seven operands and four gates. -/
def tripOut (g0 g1 g2 g3 : Vec F S1x1x16 .f32) (w0 w1 : Vec F S1x1x16 .f32) (p : Vec F S1x16 .f32) (r0 r1 r2 r3 : Vec F S1x1x16 .f32) :
    FVec F S1x16 .f32 :=
  fun j => cell (w0 (ix3 0 0 (j 1))) (w1 (ix3 0 0 (j 1))) (p (ix2 0 (j 1))) (g0 (ix3 0 0 (j 1))) (r0 (ix3 0 0 (j 1)))
    (g1 (ix3 0 0 (j 1))) (r1 (ix3 0 0 (j 1))) (g2 (ix3 0 0 (j 1))) (r2 (ix3 0 0 (j 1))) (g3 (ix3 0 0 (j 1))) (r3 (ix3 0 0 (j 1)))

/-- The four phases' printed arithmetic is one and the same. -/
theorem tripOut_phase0 (g0 g1 g2 g3 w0 w1 : Vec F S1x1x16 .f32) (p : Vec F S1x16 .f32) (r0 r1 r2 r3 : Vec F S1x1x16 .f32) :
    k0_pay20 (k0_pay19 g2) g3 (k0_pay1 w0 w1 p) (k0_pay2 (k0_pay17 g0) r0) (k0_pay3 (k0_pay18 g1) r1) (k0_pay4 (F := F)) r2 r3
      = tripOut g0 g1 g2 g3 w0 w1 p r0 r1 r2 r3 := by
  funext j
  simp only [k0_pay20, k0_pay19, k0_pay1, k0_pay2, k0_pay17, k0_pay3, k0_pay18, k0_pay4, shapeCast, lane_of_row, mulf, subf, addf,
    maximumf, minimumf, broadcast, lane_to_row, lane_to_block]
  rfl

theorem tripOut_phase1 (g0 g1 g2 g3 w0 w1 : Vec F S1x1x16 .f32) (p : Vec F S1x16 .f32) (r0 r1 r2 r3 : Vec F S1x1x16 .f32) :
    k0_pay25 (k0_pay23 g2) (k0_pay24 g3) (k0_pay5 w0 w1 p) (k0_pay6 (k0_pay21 g0) r0) (k0_pay7 (k0_pay22 g1) r1) (k0_pay8 (F := F)) r2 r3
      = tripOut g0 g1 g2 g3 w0 w1 p r0 r1 r2 r3 := by
  funext j
  simp only [k0_pay25, k0_pay23, k0_pay24, k0_pay5, k0_pay6, k0_pay21, k0_pay7, k0_pay22, k0_pay8, shapeCast, lane_of_row, mulf, subf, addf,
    maximumf, minimumf, broadcast, lane_to_row, lane_to_block]
  rfl

theorem tripOut_phase2 (g0 g1 g2 g3 w0 w1 : Vec F S1x1x16 .f32) (p : Vec F S1x16 .f32) (r0 r1 r2 r3 : Vec F S1x1x16 .f32) :
    k0_pay28 g2 g3 (k0_pay9 w0 w1 p) (k0_pay10 (k0_pay26 g0) r0) (k0_pay11 (k0_pay27 g1) r1) (k0_pay12 (F := F)) r2 r3
      = tripOut g0 g1 g2 g3 w0 w1 p r0 r1 r2 r3 := by
  funext j
  simp only [k0_pay28, k0_pay9, k0_pay10, k0_pay26, k0_pay11, k0_pay27, k0_pay12, shapeCast, lane_of_row, mulf, subf, addf,
    maximumf, minimumf, broadcast, lane_to_row, lane_to_block]
  rfl

theorem tripOut_phase3 (g0 g1 g2 g3 w0 w1 : Vec F S1x1x16 .f32) (p : Vec F S1x16 .f32) (r0 r1 r2 r3 : Vec F S1x1x16 .f32) :
    k0_pay31 g2 g3 (k0_pay13 w0 w1 p) (k0_pay14 (k0_pay29 g0) r0) (k0_pay15 (k0_pay30 g1) r1) (k0_pay16 (F := F)) r2 r3
      = tripOut g0 g1 g2 g3 w0 w1 p r0 r1 r2 r3 := by
  funext j
  simp only [k0_pay31, k0_pay13, k0_pay14, k0_pay29, k0_pay15, k0_pay30, k0_pay16, shapeCast, lane_of_row, mulf, subf, addf,
    maximumf, minimumf, broadcast, lane_to_row, lane_to_block]
  rfl

end Cert.Proof.Usage
-- ==== Proof.Trip.lean ====
/-
  One trip of the inner loop and the loop itself, for any slot of the ring: seven vectors of sixteen are loaded, one is
  stored, and after the last of the 128 trips the output slot holds the task's piece of the result.
-/
module

public import proofs.«01_k».proof.Proof.Lanes

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The text of one trip: the offsets are the slot's, `pay` is what is stored of the seven loaded vectors. -/
def tripP (L : grid0.Coords) (a0 a1 r0 r1 r2 r3 : Fin 3 → ℕ) (p : Fin 2 → ℕ)
    (ha0 : ∀ a, a0 a + S1x1x16.size a ≤ S4x2x2048.size a) (ha1 : ∀ a, a1 a + S1x1x16.size a ≤ S4x2x2048.size a)
    (hr0 : ∀ a, r0 a + S1x1x16.size a ≤ S4x4x2048.size a) (hr1 : ∀ a, r1 a + S1x1x16.size a ≤ S4x4x2048.size a)
    (hr2 : ∀ a, r2 a + S1x1x16.size a ≤ S4x4x2048.size a) (hr3 : ∀ a, r3 a + S1x1x16.size a ≤ S4x4x2048.size a)
    (hp : ∀ a, p a + S1x16.size a ≤ S4x2048.size a)
    (pay : Vec F S1x1x16 .f32 → Vec F S1x1x16 .f32 → Vec F S1x16 .f32 → Vec F S1x1x16 .f32 → Vec F S1x1x16 .f32 → Vec F S1x1x16 .f32 →
      Vec F S1x1x16 .f32 → FVec F S1x16 .f32) :
    Prog (TpuEff nD τ sig (Elt F) Λ₀ (.scVector (cV L) (jV L))) Unit := do
  let w0 ← Prog.lift (.load wwV (Rect.unit (s := S4x2x2048) a0 S1x1x16.size ha0).toLoadRect (View.loadsAt_vmem h_S1x1x16))
  let w1 ← Prog.lift (.load wwV (Rect.unit (s := S4x2x2048) a1 S1x1x16.size ha1).toLoadRect (View.loadsAt_vmem h_S1x1x16))
  let p0 ← Prog.lift (.load puV (Rect.unit (s := S4x2048) p S1x16.size hp).toLoadRect (View.loadsAt_vmem h_S1x16))
  let q0 ← Prog.lift (.load rwV (Rect.unit (s := S4x4x2048) r0 S1x1x16.size hr0).toLoadRect (View.loadsAt_vmem h_S1x1x16))
  let q1 ← Prog.lift (.load rwV (Rect.unit (s := S4x4x2048) r1 S1x1x16.size hr1).toLoadRect (View.loadsAt_vmem h_S1x1x16))
  let q2 ← Prog.lift (.load rwV (Rect.unit (s := S4x4x2048) r2 S1x1x16.size hr2).toLoadRect (View.loadsAt_vmem h_S1x1x16))
  let q3 ← Prog.lift (.load rwV (Rect.unit (s := S4x4x2048) r3 S1x1x16.size hr3).toLoadRect (View.loadsAt_vmem h_S1x1x16))
  let _ ← Prog.lift (.load ouV (Rect.unit (s := S4x2048) p S1x16.size hp).toLoadRect (View.loadsAt_vmem h_S1x16))
  Prog.lift (.store ouV (Rect.unit (s := S4x2048) p S1x16.size hp) (pay w0 w1 p0 q0 q1 q2 q3) Finset.univ (View.stores_vmem_bits_univ h_S1x16 rfl) (.inl rfl))
  pure ⟨⟩

section Phases

variable (L : grid0.Coords) (v2 v111 v112 v160 : BitVec 32) (sc : DmaSems sig S_) (k0_t1 : Fin k0_t1_loop.trips)
variable (g0 g1 g2 g3 : Vec F S1x1x16 .f32)

/-- The four inner loops' bodies are that text. -/
theorem t2_body_eq (k : Fin k0_t2_loop.trips) :
    k0_t2_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v112 v160 (k0_pay17 g0) (k0_pay18 g1) (k0_pay19 g2) g3 k ⟨⟩
    = tripP (F := F) L (k0_off18 k) (k0_off19 k) (k0_off21 k) (k0_off22 k) (k0_off23 k) (k0_off24 k) (k0_off20 k) (k0_off18_inb k) (k0_off19_inb k)
        (k0_off21_inb k) (k0_off22_inb k) (k0_off23_inb k) (k0_off24_inb k) (k0_off20_inb k) (tripOut g0 g1 g2 g3) := by
  have h := fun w0 w1 p r0 r1 r2 r3 => (tripOut_phase0 g0 g1 g2 g3 w0 w1 p r0 r1 r2 r3).symm
  simp only [tripP, h]
  rfl

/-- The other three phases' inner bodies are the same program at their slots. -/
theorem t3_body_eq (v211 c0 : BitVec 32) (k : Fin k0_t3_loop.trips) :
    k0_t3_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v211 (k0_pay21 g0) (k0_pay22 g1) (k0_pay23 g2) (k0_pay24 g3) c0 k ⟨⟩
    = tripP (F := F) L (k0_off29 k) (k0_off30 k) (k0_off32 k) (k0_off33 k) (k0_off34 k) (k0_off35 k) (k0_off31 k) (k0_off29_inb k) (k0_off30_inb k) (k0_off32_inb k) (k0_off33_inb k) (k0_off34_inb k) (k0_off35_inb k) (k0_off31_inb k)
        (tripOut g0 g1 g2 g3) := by
  have h := fun w0 w1 p r0 r1 r2 r3 => (tripOut_phase1 g0 g1 g2 g3 w0 w1 p r0 r1 r2 r3).symm
  simp only [tripP, h]
  rfl

theorem t4_body_eq (v310 c8 v342 v344 c0 : BitVec 32) (k : Fin k0_t4_loop.trips) :
    k0_t4_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v310 c8 v342 v344 c0 g0 g1 g2 g3 k ⟨⟩
    = tripP (F := F) L (k0_off39 k) (k0_off40 k) (k0_off42 k) (k0_off43 k) (k0_off44 k) (k0_off45 k) (k0_off41 k) (k0_off39_inb k) (k0_off40_inb k) (k0_off42_inb k) (k0_off43_inb k) (k0_off44_inb k) (k0_off45_inb k) (k0_off41_inb k)
        (tripOut g0 g1 g2 g3) := by
  have h := fun w0 w1 p r0 r1 r2 r3 => (tripOut_phase2 g0 g1 g2 g3 w0 w1 p r0 r1 r2 r3).symm
  simp only [tripP, h]
  rfl

theorem t5_body_eq (v409 c8 v441 v446 v448 v450 : BitVec 32) (k : Fin k0_t5_loop.trips) :
    k0_t5_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v409 c8 v441 v446 v448 v450 g0 g1 g2 g3 k ⟨⟩
    = tripP (F := F) L (k0_off49 k) (k0_off50 k) (k0_off52 k) (k0_off53 k) (k0_off54 k) (k0_off55 k) (k0_off51 k) (k0_off49_inb k) (k0_off50_inb k) (k0_off52_inb k) (k0_off53_inb k) (k0_off54_inb k) (k0_off55_inb k) (k0_off51_inb k)
        (tripOut g0 g1 g2 g3) := by
  have h := fun w0 w1 p r0 r1 r2 r3 => (tripOut_phase3 g0 g1 g2 g3 w0 w1 p r0 r1 r2 r3).symm
  simp only [tripP, h]
  rfl

end Phases

/-! ## The trip's run -/

section Run

variable {Λ : Labels} {defs : Defs nD τ sig (Elt F) Λ} {𝒲 : Variants} {c : Thread nD τ} {bd : Option 𝒲.V}

/-- A load of sixteen lanes from cells held. -/
theorem load_slot {cs : CoreSpace} {s : Shape} {e : EltTy} {m : Memref sig c.2.kind cs s e} {r : Rect s} {hl : m.view.LoadsAt r}
    {Q : (r.shape.Idx → Elt F e) → sProp (MT nD τ sig (HIx 1) (Elt F) ℕ UU ℕ)}
    {S : Finset (Idx ((m.access r).loc c))} {q : PosShare TreeShare} {f : Buf (Elt F) ((m.access r).loc c)} (hS : (m.access r).set ⊆ S) :
    ((m.access r).loc c ↦[S]{q} f)
      ⊢ iprop((((m.access r).loc c ↦[S]{q} f) -∗ Q ((m.access r).read (Elt F) f))
        -∗ wp frame (wpE defs 𝒲 c bd) Set.univ (Prog.lift (.load m r.toLoadRect hl)) Q) := by
  iintro H Hk
  iapply (wp_load_rect 𝒲 c bd Set.univ (k := .ret) hS) $$ H
  iintro H
  rw [wp_ret]; imodintro
  iapply Hk; iexact H

/-- A store of sixteen lanes to cells held in full. -/
theorem store_slot {cs : CoreSpace} {s : Shape} {e : EltTy} {m : Memref sig c.2.kind cs s e} {r : Rect s} {w : r.shape.Idx → Elt F e}
    {Mk : Finset r.shape.Idx} {hx : (m.access r).Stores Mk} {hm : Mk = Finset.univ ∨ ∀ a, r.stride a = 1}
    {Q : PUnit.{1} → sProp (MT nD τ sig (HIx 1) (Elt F) ℕ UU ℕ)}
    {S : Finset (Idx ((m.access r).loc c))} {f : Buf (Elt F) ((m.access r).loc c)} (hS : (m.access r).setOn Mk ⊆ S) :
    ((m.access r).loc c ↦[S]{fullShare} f)
      ⊢ iprop((((m.access r).loc c ↦[S]{fullShare} ((m.access r).write (Elt F) f w Mk)) -∗ Q ⟨⟩)
        -∗ wp frame (wpE defs 𝒲 c bd) Set.univ (Prog.lift (.store m r w Mk hx hm)) Q) := by
  iintro H Hk
  iapply (wp_store 𝒲 c bd Set.univ (k := .ret) hS) $$ H
  iintro H
  rw [wp_ret]; imodintro
  iapply Hk; iexact H

end Run

end Cert.Proof.Usage
-- ==== Proof.Phase.lean ====
/-
  The text of one phase of the outer loop: prefetch into the slot three further on, wait for the slot's earlier result to be
  gone and for its three inputs to be there, load the gates, run the inner loop, and send the result off. The printed body
  is four of these in a row.
-/
module

public import proofs.«01_k».proof.Proof.Trip

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev PT (F : FTy → Type) (L : grid0.Coords) := Prog (TpuEff nD τ sig (Elt F) Λ₀ (.scVector (cV L) (jV L))) Unit

/-! ## The copies' texts -/

def enqWW (L : grid0.Coords) (s : Fin 4) (o : Fin 3 → ℕ) (ho : ∀ a, o a + S1x2x2048.size a ≤ S1024x2x16384.size a) : PT F L :=
  Prog.lift (.enqueueDma ((wwA.slice (Rect.unit (s := S1024x2x16384) o S1x2x2048.size ho) (fun _ => rfl)).squeeze S2x2048 squeezes_S1x2x2048_S2x2048)
    (.here (wwS s)) (.dma (semWW s)) ((View.wordExact_bits rfl).reshape _ _) ((View.wordExact_bits rfl).reshape _ _) ⟨Or.inl rfl, trivial⟩)
def enqRW (L : grid0.Coords) (s : Fin 4) (o : Fin 3 → ℕ) (ho : ∀ a, o a + S1x4x2048.size a ≤ S1024x4x16384.size a) : PT F L :=
  Prog.lift (.enqueueDma ((rwA.slice (Rect.unit (s := S1024x4x16384) o S1x4x2048.size ho) (fun _ => rfl)).squeeze S4x2048 squeezes_S1x4x2048_S4x2048)
    (.here (rwS s)) (.dma (semRW s)) ((View.wordExact_bits rfl).reshape _ _) ((View.wordExact_bits rfl).reshape _ _) ⟨Or.inl rfl, trivial⟩)
def enqPU (L : grid0.Coords) (s : Fin 4) (o : Fin 2 → ℕ) (ho : ∀ a, o a + S1x2048.size a ≤ S1024x16384.size a) : PT F L :=
  Prog.lift (.enqueueDma ((puA.slice (Rect.unit (s := S1024x16384) o S1x2048.size ho) (fun _ => rfl)).squeeze S2048 squeezes_S1x2048_S2048)
    (.here (puS s)) (.dma (semPU s)) ((View.wordExact_bits rfl).reshape _ _) ((View.wordExact_bits rfl).reshape _ _) ⟨Or.inl rfl, trivial⟩)
def enqOU (L : grid0.Coords) (s : Fin 4) (o : Fin 2 → ℕ) (ho : ∀ a, o a + S1x2048.size a ≤ S1024x16384.size a) : PT F L :=
  Prog.lift (.enqueueDma (ouS s) (.here ((ouA.slice (Rect.unit (s := S1024x16384) o S1x2048.size ho) (fun _ => rfl)).squeeze S2048 squeezes_S1x2048_S2048))
    (.dma (semOU s)) ((View.wordExact_bits rfl).reshape _ _) ((View.wordExact_bits rfl).reshape _ _) ⟨Or.inl rfl, trivial⟩)
def waitWW (L : grid0.Coords) (s : Fin 4) : PT F L :=
  Prog.lift (.waitDma2 (semWW s) ((wwA.slice (Rect.unit (s := S1024x2x16384) ![0, 0, 0] S1x2x2048.size inb_S1024x2x16384_S1x2x2048_0_0_0) (fun _ => rfl)).squeeze S2x2048
    squeezes_S1x2x2048_S2x2048) (wwS s) ((View.wordExact_bits rfl).reshape _ _) ((View.wordExact_bits rfl).reshape _ _))
def waitRW (L : grid0.Coords) (s : Fin 4) : PT F L :=
  Prog.lift (.waitDma2 (semRW s) ((rwA.slice (Rect.unit (s := S1024x4x16384) ![0, 0, 0] S1x4x2048.size inb_S1024x4x16384_S1x4x2048_0_0_0) (fun _ => rfl)).squeeze S4x2048
    squeezes_S1x4x2048_S4x2048) (rwS s) ((View.wordExact_bits rfl).reshape _ _) ((View.wordExact_bits rfl).reshape _ _))
def waitPU (L : grid0.Coords) (s : Fin 4) : PT F L :=
  Prog.lift (.waitDma2 (semPU s) ((puA.slice (Rect.unit (s := S1024x16384) ![0, 0] S1x2048.size inb_S1024x16384_S1x2048_0_0) (fun _ => rfl)).squeeze S2048
    squeezes_S1x2048_S2048) (puS s) ((View.wordExact_bits rfl).reshape _ _) ((View.wordExact_bits rfl).reshape _ _))
def waitOU (L : grid0.Coords) (s : Fin 4) : PT F L :=
  Prog.lift (.waitDma2 (semOU s) (ouS s) ((ouA.slice (Rect.unit (s := S1024x16384) ![0, 0] S1x2048.size inb_S1024x16384_S1x2048_0_0) (fun _ => rfl)).squeeze S2048
    squeezes_S1x2048_S2048) ((View.wordExact_bits rfl).reshape _ _) ((View.wordExact_bits rfl).reshape _ _))

/-- Prefetch a task's three inputs into slot `s`, where the condition word says so. -/
def prefP (L : grid0.Coords) (s : Fin 4) (c : BitVec 1) (ow or : Fin 3 → ℕ) (op : Fin 2 → ℕ)
    (hw : c = 1#1 → ∀ a, ow a + S1x2x2048.size a ≤ S1024x2x16384.size a) (hr : c = 1#1 → ∀ a, or a + S1x4x2048.size a ≤ S1024x4x16384.size a)
    (hp : c = 1#1 → ∀ a, op a + S1x2048.size a ≤ S1024x16384.size a) : PT F L :=
  if h : c = 1#1 then do
    enqWW L s ow (hw h)
    enqRW L s or (hr h)
    enqPU L s op (hp h)
  else pure ⟨⟩

/-- Wait for slot `s`'s earlier result to be written out, where the condition word says so. -/
def owaitP (L : grid0.Coords) (s : Fin 4) (w : BitVec 1) : PT F L := if w = 1#1 then waitOU L s else pure ⟨⟩

/-- The condition word of that wait, of the task's number. -/
abbrev wOf (v : BitVec 32) : BitVec 1 := Scalar.cmpi .ne (Scalar.extui (Scalar.cmpi .sge v 4#32) : BitVec 32) 0#32

/-- The load of one gate's lanes. -/
abbrev ldG (L : grid0.Coords) (f : Fin 3 → ℕ) (hf : ∀ a, f a + S1x1x16.size a ≤ S32x4x16.size a) :
    Prog (TpuEff nD τ sig (Elt F) Λ₀ (.scVector (cV L) (jV L))) (Vec F S1x1x16 .f32) :=
  Prog.lift (.load fgV (Rect.unit (s := S32x4x16) f S1x1x16.size hf).toLoadRect (View.loadsAt_vmem h_S1x1x16))

/-- One phase. -/
def phaseP (L : grid0.Coords) (s s' : Fin 4) (c w : BitVec 1) (ow or : Fin 3 → ℕ) (op : Fin 2 → ℕ)
    (hw : c = 1#1 → ∀ a, ow a + S1x2x2048.size a ≤ S1024x2x16384.size a) (hr : c = 1#1 → ∀ a, or a + S1x4x2048.size a ≤ S1024x4x16384.size a)
    (hp : c = 1#1 → ∀ a, op a + S1x2048.size a ≤ S1024x16384.size a)
    (f0 f1 f2 f3 : Fin 3 → ℕ) (hf0 : ∀ a, f0 a + S1x1x16.size a ≤ S32x4x16.size a) (hf1 : ∀ a, f1 a + S1x1x16.size a ≤ S32x4x16.size a)
    (hf2 : ∀ a, f2 a + S1x1x16.size a ≤ S32x4x16.size a) (hf3 : ∀ a, f3 a + S1x1x16.size a ≤ S32x4x16.size a)
    (l : Scf.Loop 32) (hl : l.OK) (body : Vec F S1x1x16 .f32 → Vec F S1x1x16 .f32 → Vec F S1x1x16 .f32 → Vec F S1x1x16 .f32 → Fin l.trips → Unit → PT F L)
    (oo : Fin 2 → ℕ) (ho : ∀ a, oo a + S1x2048.size a ≤ S1024x16384.size a) : PT F L := do
  prefP L s' c ow or op hw hr hp
  owaitP L s w
  waitWW L s
  waitRW L s
  waitPU L s
  let g0 ← ldG L f0 hf0
  let g1 ← ldG L f1 hf1
  let g2 ← ldG L f2 hf2
  let g3 ← ldG L f3 hf3
  Scf.Loop.for l hl ⟨⟩ (body g0 g1 g2 g3)
  enqOU L s oo ho

section Bodies

variable (L : grid0.Coords) (v2 : BitVec 32) (sc : DmaSems sig S_) (k0_t1 : Fin k0_t1_loop.trips) (g0 g1 g2 g3 : Vec F S1x1x16 .f32)

/-! The four inner loops' bodies, as functions of the gates. -/

def body2 : Fin k0_t2_loop.trips → Unit → PT F L := fun k _ =>
  tripP (F := F) L (k0_off18 k) (k0_off19 k) (k0_off21 k) (k0_off22 k) (k0_off23 k) (k0_off24 k) (k0_off20 k) (k0_off18_inb k) (k0_off19_inb k) (k0_off21_inb k) (k0_off22_inb k) (k0_off23_inb k) (k0_off24_inb k) (k0_off20_inb k)
    (tripOut g0 g1 g2 g3)

/-- The printed inner loops' bodies are one program at four slots. -/
theorem body2_eq (v111 v112 v160 : BitVec 32) :
    k0_t2_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v112 v160 (k0_pay17 g0) (k0_pay18 g1) (k0_pay19 g2) g3 = body2 L g0 g1 g2 g3 :=
  funext fun k => funext fun _ => t2_body_eq L v2 v111 v112 v160 sc k0_t1 g0 g1 g2 g3 k

def body3 : Fin k0_t3_loop.trips → Unit → PT F L := fun k _ =>
  tripP (F := F) L (k0_off29 k) (k0_off30 k) (k0_off32 k) (k0_off33 k) (k0_off34 k) (k0_off35 k) (k0_off31 k) (k0_off29_inb k) (k0_off30_inb k) (k0_off32_inb k) (k0_off33_inb k) (k0_off34_inb k) (k0_off35_inb k) (k0_off31_inb k)
    (tripOut g0 g1 g2 g3)

theorem body3_eq (v111 v211 c0 : BitVec 32) :
    k0_t3_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v211 (k0_pay21 g0) (k0_pay22 g1) (k0_pay23 g2) (k0_pay24 g3) c0 = body3 L g0 g1 g2 g3 :=
  funext fun k => funext fun _ => t3_body_eq L v2 v111 sc k0_t1 g0 g1 g2 g3 v211 c0 k

def body4 : Fin k0_t4_loop.trips → Unit → PT F L := fun k _ =>
  tripP (F := F) L (k0_off39 k) (k0_off40 k) (k0_off42 k) (k0_off43 k) (k0_off44 k) (k0_off45 k) (k0_off41 k) (k0_off39_inb k) (k0_off40_inb k) (k0_off42_inb k) (k0_off43_inb k) (k0_off44_inb k) (k0_off45_inb k) (k0_off41_inb k)
    (tripOut g0 g1 g2 g3)

theorem body4_eq (v310 c8 v342 v344 c0 : BitVec 32) :
    k0_t4_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v310 c8 v342 v344 c0 g0 g1 g2 g3 = body4 L g0 g1 g2 g3 :=
  funext fun k => funext fun _ => t4_body_eq L v2 sc k0_t1 g0 g1 g2 g3 v310 c8 v342 v344 c0 k

def body5 : Fin k0_t5_loop.trips → Unit → PT F L := fun k _ =>
  tripP (F := F) L (k0_off49 k) (k0_off50 k) (k0_off52 k) (k0_off53 k) (k0_off54 k) (k0_off55 k) (k0_off51 k) (k0_off49_inb k) (k0_off50_inb k) (k0_off52_inb k) (k0_off53_inb k) (k0_off54_inb k) (k0_off55_inb k) (k0_off51_inb k)
    (tripOut g0 g1 g2 g3)

theorem body5_eq (v409 c8 v441 v446 v448 v450 : BitVec 32) :
    k0_t5_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v409 c8 v441 v446 v448 v450 g0 g1 g2 g3 = body5 L g0 g1 g2 g3 :=
  funext fun k => funext fun _ => t5_body_eq L v2 sc k0_t1 g0 g1 g2 g3 v409 c8 v441 v446 v448 v450 k

end Bodies

section Parts

variable (L : grid0.Coords) (v2 : BitVec 32) (sc : DmaSems sig S_) (k0_t1 : Fin k0_t1_loop.trips)

set_option maxRecDepth 65536

/-- The printed pieces of the phases, each as its share of the one phase program. -/
theorem part9_eq (c0 : BitVec 32) :
    k0_part9 (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 c0 1#32 k0_t1 = (do
      prefP L 3 (k0_cond1 k0_t1) (k0_off11 L k0_t1) (k0_off12 L k0_t1) (k0_off13 L k0_t1) (k0_off11_inb L k0_t1) (k0_off12_inb L k0_t1) (k0_off13_inb L k0_t1)
      owaitP L 0 (wOf (Scalar.addi (Scalar.muli (Scf.iv c0 1#32 k0_t1) 4#32) 0#32))
      waitWW L 0
      waitRW L 0
      pure ⟨Scalar.muli (Scf.iv c0 1#32 k0_t1) 4#32, Scalar.addi (Scalar.muli (Scf.iv c0 1#32 k0_t1) 4#32) 0#32⟩) := by
  rw [k0_part9_eq_skeleton]
  unfold k0_part9_skel prefP owaitP
  by_cases h : k0_cond1 k0_t1 = 1#1 <;> by_cases h' : wOf (Scalar.addi (Scalar.muli (Scf.iv c0 1#32 k0_t1) 4#32) 0#32) = 1#1
  · simp only [dif_pos h, if_pos h', dif_pos h']; rfl
  · simp only [dif_pos h, if_neg h', dif_neg h']; rfl
  · simp only [dif_neg h, if_pos h', dif_pos h']; rfl
  · simp only [dif_neg h, if_neg h', dif_neg h']; rfl

theorem part12_eq (v211 : BitVec 32) (v213 : BitVec 1) :
    k0_part12 (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v211 v213 = (do
      prefP L 0 (k0_cond3 k0_t1) (k0_off26 L k0_t1) (k0_off27 L k0_t1) (k0_off28 L k0_t1) (k0_off26_inb L k0_t1) (k0_off27_inb L k0_t1) (k0_off28_inb L k0_t1)
      owaitP L 1 (wOf v211)
      waitWW L 1
      waitRW L 1
      pure ⟨⟩) := by
  rw [k0_part12_eq_skeleton]
  unfold k0_part12_skel prefP owaitP
  by_cases h : k0_cond3 k0_t1 = 1#1 <;> by_cases h' : wOf v211 = 1#1
  · simp only [dif_pos h, if_pos h', dif_pos h']; rfl
  · simp only [dif_pos h, if_neg h', dif_neg h']; rfl
  · simp only [dif_neg h, if_pos h', dif_pos h']; rfl
  · simp only [dif_neg h, if_neg h', dif_neg h']; rfl

theorem part14_eq (v111 v211 c0 : BitVec 32) (g0 g1 g2 g3 : Vec F S1x1x16 .f32) :
    k0_part14 (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v211 (k0_pay21 g0) (k0_pay22 g1) (k0_pay23 g2) (k0_pay24 g3) c0 = (do
      Scf.Loop.for k0_t3_loop k0_t3_ok ⟨⟩ (body3 L g0 g1 g2 g3)
      enqOU L 1 (k0_off25 L k0_t1 1#32) (k0_off25_inb L k0_t1 1)
      prefP L 1 (k0_cond5 k0_t1) (k0_off36 L k0_t1) (k0_off37 L k0_t1) (k0_off38 L k0_t1) (k0_off36_inb L k0_t1) (k0_off37_inb L k0_t1) (k0_off38_inb L k0_t1)
      pure ⟨Scalar.addi v111 2#32, wOf (Scalar.addi v111 2#32)⟩) := by
  have e := body3_eq L v2 sc k0_t1 g0 g1 g2 g3 v111 v211 c0
  rw [k0_part14_eq_skeleton]
  unfold k0_part14_skel prefP
  rw [e]
  by_cases h : k0_cond5 k0_t1 = 1#1
  · simp only [dif_pos h]; rfl
  · simp only [dif_neg h]; rfl

theorem part15_eq (v310 : BitVec 32) (v317 : BitVec 1) :
    k0_part15 (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v310 v317 = (do
      owaitP L 2 v317
      waitWW L 2
      waitRW L 2
      waitPU L 2
      pure ⟨8#32, Scalar.divsi v310 8#32, Scalar.extui (Scalar.cmpi .sgt v310 0#32), 0#32⟩) := by
  rw [k0_part15_eq_skeleton]
  unfold k0_part15_skel owaitP
  by_cases h' : v317 = 1#1
  · simp only [if_pos h', dif_pos h']; rfl
  · simp only [if_neg h', dif_neg h']; rfl

theorem part17_eq (v111 v310 c8 v380 v382 c0 : BitVec 32) :
    k0_part17 (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 k0_t1 v111 v310 c8 v380 v382 c0 = (do
      enqOU L 2 (k0_off25 L k0_t1 2#32) (k0_off25_inb L k0_t1 2)
      prefP L 2 (k0_cond7 k0_t1) (k0_off46 L k0_t1) (k0_off47 L k0_t1) (k0_off48 L k0_t1) (k0_off46_inb L k0_t1) (k0_off47_inb L k0_t1) (k0_off48_inb L k0_t1)
      owaitP L 3 (wOf (Scalar.addi v111 3#32))
      pure (Scalar.addi v111 3#32)) := by
  rw [k0_part17_eq_skeleton]
  unfold k0_part17_skel prefP owaitP
  by_cases h : k0_cond7 k0_t1 = 1#1 <;> by_cases h' : wOf (Scalar.addi v111 3#32) = 1#1
  · simp only [dif_pos h, if_pos h', dif_pos h']; rfl
  · simp only [dif_pos h, if_neg h', dif_neg h']; rfl
  · simp only [dif_neg h, if_pos h', dif_pos h']; rfl
  · simp only [dif_neg h, if_neg h', dif_neg h']; rfl

/-- The four phases of one trip of the outer loop; `v111` is the number of the first's task. -/
def phase0 (v111 : BitVec 32) : PT F L :=
  phaseP L 0 3 (k0_cond1 k0_t1) (wOf (Scalar.addi v111 0#32)) (k0_off11 L k0_t1) (k0_off12 L k0_t1) (k0_off13 L k0_t1) (k0_off11_inb L k0_t1) (k0_off12_inb L k0_t1) (k0_off13_inb L k0_t1)
    (k0_off14 k0_t1 0#32) (k0_off15 k0_t1 0#32) (k0_off16 k0_t1 0#32) (k0_off17 k0_t1 0#32) (k0_off14_inb k0_t1 0) (k0_off15_inb k0_t1 0) (k0_off16_inb k0_t1 0) (k0_off17_inb k0_t1 0)
    k0_t2_loop k0_t2_ok (body2 L) (k0_off25 L k0_t1 0#32) (k0_off25_inb L k0_t1 0)

def phase1 (v111 : BitVec 32) : PT F L :=
  phaseP L 1 0 (k0_cond3 k0_t1) (wOf (Scalar.addi v111 1#32)) (k0_off26 L k0_t1) (k0_off27 L k0_t1) (k0_off28 L k0_t1) (k0_off26_inb L k0_t1) (k0_off27_inb L k0_t1) (k0_off28_inb L k0_t1)
    (k0_off14 k0_t1 1#32) (k0_off15 k0_t1 1#32) (k0_off16 k0_t1 1#32) (k0_off17 k0_t1 1#32) (k0_off14_inb k0_t1 1) (k0_off15_inb k0_t1 1) (k0_off16_inb k0_t1 1) (k0_off17_inb k0_t1 1)
    k0_t3_loop k0_t3_ok (body3 L) (k0_off25 L k0_t1 1#32) (k0_off25_inb L k0_t1 1)

def phase2 (v111 : BitVec 32) : PT F L :=
  phaseP L 2 1 (k0_cond5 k0_t1) (wOf (Scalar.addi v111 2#32)) (k0_off36 L k0_t1) (k0_off37 L k0_t1) (k0_off38 L k0_t1) (k0_off36_inb L k0_t1) (k0_off37_inb L k0_t1) (k0_off38_inb L k0_t1)
    (k0_off14 k0_t1 2#32) (k0_off15 k0_t1 2#32) (k0_off16 k0_t1 2#32) (k0_off17 k0_t1 2#32) (k0_off14_inb k0_t1 2) (k0_off15_inb k0_t1 2) (k0_off16_inb k0_t1 2) (k0_off17_inb k0_t1 2)
    k0_t4_loop k0_t4_ok (body4 L) (k0_off25 L k0_t1 2#32) (k0_off25_inb L k0_t1 2)

def phase3 (v111 : BitVec 32) : PT F L :=
  phaseP L 3 2 (k0_cond7 k0_t1) (wOf (Scalar.addi v111 3#32)) (k0_off46 L k0_t1) (k0_off47 L k0_t1) (k0_off48 L k0_t1) (k0_off46_inb L k0_t1) (k0_off47_inb L k0_t1) (k0_off48_inb L k0_t1)
    (k0_off14 k0_t1 3#32) (k0_off15 k0_t1 3#32) (k0_off16 k0_t1 3#32) (k0_off17 k0_t1 3#32) (k0_off14_inb k0_t1 3) (k0_off15_inb k0_t1 3) (k0_off16_inb k0_t1 3) (k0_off17_inb k0_t1 3)
    k0_t5_loop k0_t5_ok (body5 L) (k0_off25 L k0_t1 3#32) (k0_off25_inb L k0_t1 3)

/-- The printed trip of the outer loop is the four phases in a row. -/
theorem t1_body_eq (c0 c64 : BitVec 32) :
    k0_t1_body (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 c0 c64 k0_t1 ⟨⟩ = (do
      phase0 L k0_t1 (Scalar.muli (Scf.iv c0 1#32 k0_t1) 4#32)
      phase1 L k0_t1 (Scalar.muli (Scf.iv c0 1#32 k0_t1) 4#32)
      phase2 L k0_t1 (Scalar.muli (Scf.iv c0 1#32 k0_t1) 4#32)
      phase3 L k0_t1 (Scalar.muli (Scf.iv c0 1#32 k0_t1) 4#32)) := by
  simp only [k0_t1_body, part9_eq, k0_part10_eq_skeleton, k0_part10_skel, k0_part11_eq_skeleton, k0_part11_skel, body2_eq, part12_eq,
    k0_part13_eq_skeleton, k0_part13_skel, part14_eq, part15_eq, k0_part16_eq_skeleton, k0_part16_skel, body4_eq, part17_eq,
    k0_part18_eq_skeleton, k0_part18_skel, k0_part19_eq_skeleton, k0_part19_skel, body5_eq, phase0, phase1, phase2, phase3, phaseP, bind_assoc, pure_bind]
  rfl

end Parts

end Cert.Proof.Usage
-- ==== Proof.TripRun.lean ====
/-
  The run of one trip and of the inner loop: each trip extends the filled part of the output slot by sixteen cells, and
  after the last of the 128 trips the whole slot holds the task's piece of the result.
-/
module

public import proofs.«01_k».proof.Proof.Trip

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Run

variable {defs : Defs nD τ sig (Elt F) Λ₀} {𝒲 : Variants} {bd : Option 𝒲.V}

/-- Within a slot of a rank-3 scratch: sixteen lanes lie in the slot. -/
theorem lanes3 {n a b : ℕ} (o h x : ℕ) (inb : ∀ y, (![o, h, x] : Fin 3 → Nat) y + (![1, 1, 16] : Fin 3 → Nat) y ≤ (⟨3, ![n, a, b]⟩ : Shape).size y) :
    (Rect.unit (s := ⟨3, ![n, a, b]⟩) ![o, h, x] ![1, 1, 16] inb).set ⊆ Finset.univ.filter fun j => (j 0).val = o := by
  intro j hj
  rw [Rect.mem_set_unit] at hj
  have h0 : o ≤ (j 0).val ∧ (j 0).val < o + 1 := hj 0
  exact Finset.mem_filter.mpr ⟨Finset.mem_univ _, by omega⟩

/-- The lanes of a rank-2 scratch that a trip reads or writes. -/
theorem mem_lanes2 {n b : ℕ} (o x : ℕ) (inb : ∀ y, (![o, x] : Fin 2 → Nat) y + (![1, 16] : Fin 2 → Nat) y ≤ (⟨2, ![n, b]⟩ : Shape).size y)
    (j : (⟨2, ![n, b]⟩ : Shape).Idx) :
    j ∈ (Rect.unit (s := ⟨2, ![n, b]⟩) ![o, x] ![1, 16] inb).set ↔ (j 0).val = o ∧ x ≤ (j 1).val ∧ (j 1).val < x + 16 := by
  rw [Rect.mem_set_unit]
  constructor
  · intro h
    have h0 : o ≤ (j 0).val ∧ (j 0).val < o + 1 := h 0
    have h1 : x ≤ (j 1).val ∧ (j 1).val < x + 16 := h 1
    exact ⟨by omega, h1⟩
  · rintro ⟨h, h'⟩ y
    match y with
    | ⟨0, _⟩ => exact ⟨le_of_eq h.symm, by show (j 0).val < o + 1; omega⟩
    | ⟨1, _⟩ => exact h'

theorem lanes2 {n b : ℕ} (o x : ℕ) (inb : ∀ y, (![o, x] : Fin 2 → Nat) y + (![1, 16] : Fin 2 → Nat) y ≤ (⟨2, ![n, b]⟩ : Shape).size y) :
    (Rect.unit (s := ⟨2, ![n, b]⟩) ![o, x] ![1, 16] inb).set ⊆ Finset.univ.filter fun j => (j 0).val = o := by
  intro j hj
  exact Finset.mem_filter.mpr ⟨Finset.mem_univ _, ((mem_lanes2 o x inb j).mp hj).1⟩

/-! The loads of a trip, and its store. -/

theorem ld_ww {d : Dev nD} {L : grid0.Coords} {s : Fin 4} {h x : ℕ} {inb : ∀ a, (![s.val, h, x] : Fin 3 → ℕ) a + S1x1x16.size a ≤ S4x2x2048.size a} {hl}
    {f : S4x2x2048.Idx → F .f32} {Q : Vec F S1x1x16 .f32 → sProp (MT nD τ sig (HIx 1) (Elt F) ℕ UU ℕ)} :
    (wwV.view.loc (thr d L) ↦[setWW s]{fullShare} f)
      ⊢ iprop(((wwV.view.loc (thr d L) ↦[setWW s]{fullShare} f)
          -∗ Q ((wwV.access (Rect.unit (s := S4x2x2048) ![s.val, h, x] S1x1x16.size inb)).read (Elt F) f))
        -∗ wp frame (wpE defs 𝒲 (thr d L) bd) Set.univ (Prog.lift (.load wwV (Rect.unit (s := S4x2x2048) ![s.val, h, x] S1x1x16.size inb).toLoadRect hl)) Q) :=
  load_slot (c := thr d L) (m := wwV) (r := Rect.unit (s := S4x2x2048) ![s.val, h, x] S1x1x16.size inb) (S := setWW s) (f := f) ((View.set_slice_whole _ _).trans_subset (lanes3 _ _ _ inb))

theorem ld_rw {d : Dev nD} {L : grid0.Coords} {s : Fin 4} {h x : ℕ} {inb : ∀ a, (![s.val, h, x] : Fin 3 → ℕ) a + S1x1x16.size a ≤ S4x4x2048.size a} {hl}
    {f : S4x4x2048.Idx → F .f32} {Q : Vec F S1x1x16 .f32 → sProp (MT nD τ sig (HIx 1) (Elt F) ℕ UU ℕ)} :
    (rwV.view.loc (thr d L) ↦[setRW s]{fullShare} f)
      ⊢ iprop(((rwV.view.loc (thr d L) ↦[setRW s]{fullShare} f)
          -∗ Q ((rwV.access (Rect.unit (s := S4x4x2048) ![s.val, h, x] S1x1x16.size inb)).read (Elt F) f))
        -∗ wp frame (wpE defs 𝒲 (thr d L) bd) Set.univ (Prog.lift (.load rwV (Rect.unit (s := S4x4x2048) ![s.val, h, x] S1x1x16.size inb).toLoadRect hl)) Q) :=
  load_slot (c := thr d L) (m := rwV) (r := Rect.unit (s := S4x4x2048) ![s.val, h, x] S1x1x16.size inb) (S := setRW s) (f := f) ((View.set_slice_whole _ _).trans_subset (lanes3 _ _ _ inb))

theorem ld_pu {d : Dev nD} {L : grid0.Coords} {s : Fin 4} {x : ℕ} {inb : ∀ a, (![s.val, x] : Fin 2 → ℕ) a + S1x16.size a ≤ S4x2048.size a} {hl}
    {f : S4x2048.Idx → F .f32} {Q : Vec F S1x16 .f32 → sProp (MT nD τ sig (HIx 1) (Elt F) ℕ UU ℕ)} :
    (puV.view.loc (thr d L) ↦[setPU s]{fullShare} f)
      ⊢ iprop(((puV.view.loc (thr d L) ↦[setPU s]{fullShare} f)
          -∗ Q ((puV.access (Rect.unit (s := S4x2048) ![s.val, x] S1x16.size inb)).read (Elt F) f))
        -∗ wp frame (wpE defs 𝒲 (thr d L) bd) Set.univ (Prog.lift (.load puV (Rect.unit (s := S4x2048) ![s.val, x] S1x16.size inb).toLoadRect hl)) Q) :=
  load_slot (c := thr d L) (m := puV) (r := Rect.unit (s := S4x2048) ![s.val, x] S1x16.size inb) (S := setPU s) (f := f) ((View.set_slice_whole _ _).trans_subset (lanes2 _ _ inb))

theorem ld_ou {d : Dev nD} {L : grid0.Coords} {s : Fin 4} {x : ℕ} {inb : ∀ a, (![s.val, x] : Fin 2 → ℕ) a + S1x16.size a ≤ S4x2048.size a} {hl}
    {f : S4x2048.Idx → F .f32} {Q : Vec F S1x16 .f32 → sProp (MT nD τ sig (HIx 1) (Elt F) ℕ UU ℕ)} :
    (ouV.view.loc (thr d L) ↦[setPU s]{fullShare} f)
      ⊢ iprop(((ouV.view.loc (thr d L) ↦[setPU s]{fullShare} f)
          -∗ Q ((ouV.access (Rect.unit (s := S4x2048) ![s.val, x] S1x16.size inb)).read (Elt F) f))
        -∗ wp frame (wpE defs 𝒲 (thr d L) bd) Set.univ (Prog.lift (.load ouV (Rect.unit (s := S4x2048) ![s.val, x] S1x16.size inb).toLoadRect hl)) Q) :=
  load_slot (c := thr d L) (m := ouV) (r := Rect.unit (s := S4x2048) ![s.val, x] S1x16.size inb) (S := setPU s) (f := f) ((View.set_slice_whole _ _).trans_subset (lanes2 _ _ inb))

theorem st_ou {d : Dev nD} {L : grid0.Coords} {s : Fin 4} {x : ℕ} {inb : ∀ a, (![s.val, x] : Fin 2 → ℕ) a + S1x16.size a ≤ S4x2048.size a} {hx hm}
    {f : S4x2048.Idx → F .f32} {w : Vec F S1x16 .f32} {Q : PUnit.{1} → sProp (MT nD τ sig (HIx 1) (Elt F) ℕ UU ℕ)} :
    (ouV.view.loc (thr d L) ↦[setPU s]{fullShare} f)
      ⊢ iprop(((ouV.view.loc (thr d L) ↦[setPU s]{fullShare} (ouV.access (Rect.unit (s := S4x2048) ![s.val, x] S1x16.size inb)).write (Elt F) f w Finset.univ) -∗ Q ⟨⟩)
        -∗ wp frame (wpE defs 𝒲 (thr d L) bd) Set.univ (Prog.lift (.store ouV (Rect.unit (s := S4x2048) ![s.val, x] S1x16.size inb) w Finset.univ hx hm)) Q) :=
  store_slot (c := thr d L) (m := ouV) (r := Rect.unit (s := S4x2048) ![s.val, x] S1x16.size inb) (S := setPU s) (f := f) ((View.set_slice_whole _ _).trans_subset (lanes2 _ _ inb))

/-- The state before trip `k` of task `t` in slot `s`: the three input slots hold the task's pieces, the output slot its
    first `16 * k` cells. -/
def TripI (d : Dev nD) (L : grid0.Coords) (A : Ins F) (s : Fin 4) (t k : ℕ) : sProp 𝕄 :=
  iprop((wwV.view.loc (thr d L) ↦[setWW s]{fullShare} wwC A L t) ∗ (rwV.view.loc (thr d L) ↦[setRW s]{fullShare} rwC A L t)
    ∗ (puV.view.loc (thr d L) ↦[setPU s]{fullShare} puC A L t)
    ∗ ∃ f : Buf (Elt F) (ouV.view.loc (thr d L)), ⌜∀ j : S4x2048.Idx, (j 0).val = s.val → (j 1).val < 16 * k → f j = ouC A L t j⌝
      ∗ (ouV.view.loc (thr d L) ↦[setPU s]{fullShare} f))

/-- Whether a gate vector holds gate `h` of the task's row in every lane. -/
def GateIs (A : Ins F) (L : grid0.Coords) (t : ℕ) (h : Fin 4) (g : Vec F S1x1x16 .f32) : Prop :=
  ∀ j : S1x16.Idx, g (ix3 0 0 (j 1)) = A.fg (ix2 (row L t) h)

/-- What a load of sixteen lanes of a rank-3 scratch yields. -/
theorem read_ww (A : Ins F) (L : grid0.Coords) (s : Fin 4) (t k : ℕ) (hk : k < 128) (h : Fin 2)
    (inb : ∀ a, (![s.val, h.val, 16 * k] : Fin 3 → ℕ) a + S1x1x16.size a ≤ S4x2x2048.size a) (j : S1x16.Idx) :
    (wwV.access (Rect.unit (s := S4x2x2048) ![s.val, h.val, 16 * k] S1x1x16.size inb)).read (Elt F) (wwC A L t) (ix3 0 0 (j 1))
      = A.ww (ix3 (row L t) h (col t ⟨16 * k + (j 1).val, by have : (j 1).val < 16 := (j 1).isLt; omega⟩)) := by
  show wwC A L t ((Rect.unit (s := S4x2x2048) ![s.val, h.val, 16 * k] S1x1x16.size inb).emb (ix3 0 0 (j 1))) = _
  unfold wwC
  congr 1
  funext a
  match a with
  | ⟨0, _⟩ => rfl
  | ⟨1, _⟩ => exact Fin.ext (by show h.val + 1 * 0 = h.val; omega)
  | ⟨2, _⟩ => exact Fin.ext (by show 2048 * (t % 8) + (16 * k + 1 * (j 1).val) = 2048 * (t % 8) + (16 * k + (j 1).val); omega)

theorem read_rw (A : Ins F) (L : grid0.Coords) (s : Fin 4) (t k : ℕ) (hk : k < 128) (h : Fin 4)
    (inb : ∀ a, (![s.val, h.val, 16 * k] : Fin 3 → ℕ) a + S1x1x16.size a ≤ S4x4x2048.size a) (j : S1x16.Idx) :
    (rwV.access (Rect.unit (s := S4x4x2048) ![s.val, h.val, 16 * k] S1x1x16.size inb)).read (Elt F) (rwC A L t) (ix3 0 0 (j 1))
      = A.rw (ix3 (row L t) h (col t ⟨16 * k + (j 1).val, by have : (j 1).val < 16 := (j 1).isLt; omega⟩)) := by
  show rwC A L t ((Rect.unit (s := S4x4x2048) ![s.val, h.val, 16 * k] S1x1x16.size inb).emb (ix3 0 0 (j 1))) = _
  unfold rwC
  congr 1
  funext a
  match a with
  | ⟨0, _⟩ => rfl
  | ⟨1, _⟩ => exact Fin.ext (by show h.val + 1 * 0 = h.val; omega)
  | ⟨2, _⟩ => exact Fin.ext (by show 2048 * (t % 8) + (16 * k + 1 * (j 1).val) = 2048 * (t % 8) + (16 * k + (j 1).val); omega)

theorem read_pu (A : Ins F) (L : grid0.Coords) (s : Fin 4) (t k : ℕ) (hk : k < 128)
    (inb : ∀ a, (![s.val, 16 * k] : Fin 2 → ℕ) a + S1x16.size a ≤ S4x2048.size a) (j : S1x16.Idx) :
    (puV.access (Rect.unit (s := S4x2048) ![s.val, 16 * k] S1x16.size inb)).read (Elt F) (puC A L t) (ix2 0 (j 1))
      = A.pu (ix2 (row L t) (col t ⟨16 * k + (j 1).val, by have : (j 1).val < 16 := (j 1).isLt; omega⟩)) := by
  show puC A L t ((Rect.unit (s := S4x2048) ![s.val, 16 * k] S1x16.size inb).emb (ix2 0 (j 1))) = _
  unfold puC
  congr 1
  funext a
  match a with
  | ⟨0, _⟩ => rfl
  | ⟨1, _⟩ => exact Fin.ext (by show 2048 * (t % 8) + (16 * k + 1 * (j 1).val) = 2048 * (t % 8) + (16 * k + (j 1).val); omega)

/-- After the store the first `16 * (k + 1)` cells of the output slot are the task's. -/
theorem store_upto (A : Ins F) (L : grid0.Coords) (s : Fin 4) (t k : ℕ) (hk : k < 128) {g0 g1 g2 g3 : Vec F S1x1x16 .f32}
    (h0 : GateIs A L t 0 g0) (h1 : GateIs A L t 1 g1) (h2 : GateIs A L t 2 g2) (h3 : GateIs A L t 3 g3)
    {ha0 : ∀ a, (![s.val, (0 : Fin 2).val, 16 * k] : Fin 3 → ℕ) a + S1x1x16.size a ≤ S4x2x2048.size a}
    {ha1 : ∀ a, (![s.val, (1 : Fin 2).val, 16 * k] : Fin 3 → ℕ) a + S1x1x16.size a ≤ S4x2x2048.size a}
    {hr0 : ∀ a, (![s.val, (0 : Fin 4).val, 16 * k] : Fin 3 → ℕ) a + S1x1x16.size a ≤ S4x4x2048.size a}
    {hr1 : ∀ a, (![s.val, (1 : Fin 4).val, 16 * k] : Fin 3 → ℕ) a + S1x1x16.size a ≤ S4x4x2048.size a}
    {hr2 : ∀ a, (![s.val, (2 : Fin 4).val, 16 * k] : Fin 3 → ℕ) a + S1x1x16.size a ≤ S4x4x2048.size a}
    {hr3 : ∀ a, (![s.val, (3 : Fin 4).val, 16 * k] : Fin 3 → ℕ) a + S1x1x16.size a ≤ S4x4x2048.size a}
    {hp : ∀ a, (![s.val, 16 * k] : Fin 2 → ℕ) a + S1x16.size a ≤ S4x2048.size a}
    {f : S4x2048.Idx → F .f32} (hf : ∀ j : S4x2048.Idx, (j 0).val = s.val → (j 1).val < 16 * k → f j = ouC A L t j)
    (j : S4x2048.Idx) (hj : (j 0).val = s.val) (hj' : (j 1).val < 16 * (k + 1)) :
    (ouV.access (Rect.unit (s := S4x2048) ![s.val, 16 * k] S1x16.size hp)).write (Elt F) f
      (tripOut g0 g1 g2 g3
        ((wwV.access (Rect.unit (s := S4x2x2048) ![s.val, (0 : Fin 2).val, 16 * k] S1x1x16.size ha0)).read (Elt F) (wwC A L t))
        ((wwV.access (Rect.unit (s := S4x2x2048) ![s.val, (1 : Fin 2).val, 16 * k] S1x1x16.size ha1)).read (Elt F) (wwC A L t))
        ((puV.access (Rect.unit (s := S4x2048) ![s.val, 16 * k] S1x16.size hp)).read (Elt F) (puC A L t))
        ((rwV.access (Rect.unit (s := S4x4x2048) ![s.val, (0 : Fin 4).val, 16 * k] S1x1x16.size hr0)).read (Elt F) (rwC A L t))
        ((rwV.access (Rect.unit (s := S4x4x2048) ![s.val, (1 : Fin 4).val, 16 * k] S1x1x16.size hr1)).read (Elt F) (rwC A L t))
        ((rwV.access (Rect.unit (s := S4x4x2048) ![s.val, (2 : Fin 4).val, 16 * k] S1x1x16.size hr2)).read (Elt F) (rwC A L t))
        ((rwV.access (Rect.unit (s := S4x4x2048) ![s.val, (3 : Fin 4).val, 16 * k] S1x1x16.size hr3)).read (Elt F) (rwC A L t)))
      Finset.univ j = ouC A L t j := by
  by_cases hm : 16 * k ≤ (j 1).val
  · obtain ⟨y, rfl⟩ : ∃ y : S1x16.Idx, (Rect.unit (s := S4x2048) ![s.val, 16 * k] S1x16.size hp).emb y = j := by
      have := (mem_lanes2 s.val (16 * k) hp j).mpr ⟨hj, hm, by omega⟩
      rw [← Rect.map_emb_univ] at this
      obtain ⟨y, -, hy⟩ := Finset.mem_map.mp this
      exact ⟨y, hy⟩
    refine (View.write_emb_of_mem (v := ouV.access (Rect.unit (s := S4x2048) ![s.val, 16 * k] S1x16.size hp)) (Val := Elt F) f _ (Finset.mem_univ y)).trans ?_
    show cell _ _ _ _ _ _ _ _ _ _ _ = ouC A L t _
    rw [read_ww A L s t k hk 0, read_ww A L s t k hk 1, read_pu A L s t k hk, read_rw A L s t k hk 0, read_rw A L s t k hk 1, read_rw A L s t k hk 2,
      read_rw A L s t k hk 3, h0 y, h1 y, h2 y, h3 y]
    have e : (⟨16 * k + (y 1).val, by have : (y 1).val < 16 := (y 1).isLt; omega⟩ : Fin 2048)
        = (Rect.unit (s := S4x2048) ![s.val, 16 * k] S1x16.size hp).emb y 1 := by
      refine Fin.ext ?_
      rw [Rect.emb_apply]
      show 16 * k + (y 1).val = 16 * k + 1 * (y 1).val
      omega
    show outAt A (row L t) (col t _) = outAt A (row L t) (col t _)
    rw [e]
  · rw [View.write_of_not_mem]
    · exact hf j hj (by omega)
    · intro h
      rw [View.setOn_univ] at h
      have h' : j ∈ (Rect.unit (s := S4x2048) ![s.val, 16 * k] S1x16.size hp).set := (View.set_slice_whole _ _).trans_subset (Finset.Subset.refl _) h
      exact hm ((mem_lanes2 s.val (16 * k) hp j).mp h').2.1

/-- One trip. -/
theorem wp_trip (d : Dev nD) (L : grid0.Coords) (A : Ins F) (s : Fin 4) (t k : ℕ) (hk : k < 128) {g0 g1 g2 g3 : Vec F S1x1x16 .f32}
    (h0 : GateIs A L t 0 g0) (h1 : GateIs A L t 1 g1) (h2 : GateIs A L t 2 g2) (h3 : GateIs A L t 3 g3)
    {a0 a1 r0 r1 r2 r3 : Fin 3 → ℕ} {p : Fin 2 → ℕ} {ha0 : ∀ a, a0 a + S1x1x16.size a ≤ S4x2x2048.size a} {ha1 : ∀ a, a1 a + S1x1x16.size a ≤ S4x2x2048.size a}
    {hr0 : ∀ a, r0 a + S1x1x16.size a ≤ S4x4x2048.size a} {hr1 : ∀ a, r1 a + S1x1x16.size a ≤ S4x4x2048.size a}
    {hr2 : ∀ a, r2 a + S1x1x16.size a ≤ S4x4x2048.size a} {hr3 : ∀ a, r3 a + S1x1x16.size a ≤ S4x4x2048.size a}
    {hp : ∀ a, p a + S1x16.size a ≤ S4x2048.size a}
    (ea0 : a0 = ![s.val, (0 : Fin 2).val, 16 * k]) (ea1 : a1 = ![s.val, (1 : Fin 2).val, 16 * k]) (er0 : r0 = ![s.val, (0 : Fin 4).val, 16 * k])
    (er1 : r1 = ![s.val, (1 : Fin 4).val, 16 * k]) (er2 : r2 = ![s.val, (2 : Fin 4).val, 16 * k]) (er3 : r3 = ![s.val, (3 : Fin 4).val, 16 * k])
    (ep : p = ![s.val, 16 * k]) :
    TripI d L A s t k ⊢ wp frame (wpE defs 𝒲 (thr d L) bd) Set.univ
      (tripP (F := F) L a0 a1 r0 r1 r2 r3 p ha0 ha1 hr0 hr1 hr2 hr3 hp (tripOut g0 g1 g2 g3)) fun _ => TripI d L A s t (k + 1) := by
  subst ea0 ea1 er0 er1 er2 er3 ep
  unfold TripI tripP
  iintro ⟨Hw, Hr, Hp, %f, %hf, Ho⟩
  rw [wp_bind]
  iapply ld_ww $$ Hw
  iintro Hw
  rw [wp_bind]
  iapply ld_ww $$ Hw
  iintro Hw
  rw [wp_bind]
  iapply ld_pu $$ Hp
  iintro Hp
  rw [wp_bind]
  iapply ld_rw $$ Hr
  iintro Hr
  rw [wp_bind]
  iapply ld_rw $$ Hr
  iintro Hr
  rw [wp_bind]
  iapply ld_rw $$ Hr
  iintro Hr
  rw [wp_bind]
  iapply ld_rw $$ Hr
  iintro Hr
  rw [wp_bind]
  iapply ld_ou $$ Ho
  iintro Ho
  rw [wp_bind]
  iapply st_ou $$ Ho
  iintro Ho
  rw [wp_pure]; imodintro
  iframe Hw Hr Hp
  iexists _
  isplitr
  rotate_left
  · iexact Ho
  ipureintro
  exact store_upto A L s t k hk h0 h1 h2 h3 hf

/-- The inner loop, of 128 trips: the output slot is filled. -/
theorem wp_trips (d : Dev nD) (L : grid0.Coords) (A : Ins F) (s : Fin 4) (t : ℕ)
    (l : Scf.Loop 32) (hl : l.OK) (htr : l.trips = 128)
    {body : Fin l.trips → Unit → Prog (TpuEff nD τ sig (Elt F) Λ₀ (.scVector (cV L) (jV L))) Unit}
    (hb : ∀ k acc, TripI d L A s t k.val ⊢ wp frame (wpE defs 𝒲 (thr d L) bd) Set.univ (body k acc) fun _ => TripI d L A s t (k.val + 1))
    {Q : Unit → sProp (MT nD τ sig (HIx 1) (Elt F) ℕ UU ℕ)} :
    iprop((wwV.view.loc (thr d L) ↦[setWW s]{fullShare} wwC A L t) ∗ (rwV.view.loc (thr d L) ↦[setRW s]{fullShare} rwC A L t)
        ∗ (puV.view.loc (thr d L) ↦[setPU s]{fullShare} puC A L t) ∗ ∃ f, ouV.view.loc (thr d L) ↦[setPU s]{fullShare} f)
      ⊢ iprop((iprop((wwV.view.loc (thr d L) ↦[setWW s]{fullShare} wwC A L t) ∗ (rwV.view.loc (thr d L) ↦[setRW s]{fullShare} rwC A L t)
          ∗ (puV.view.loc (thr d L) ↦[setPU s]{fullShare} puC A L t) ∗ (ouV.view.loc (thr d L) ↦[setPU s]{fullShare} ouC A L t)) -∗ Q ⟨⟩)
        -∗ wp frame (wpE defs 𝒲 (thr d L) bd) Set.univ (Scf.Loop.for l hl ⟨⟩ body) Q) := by
  iintro ⟨Hw, Hr, Hp, %f, Ho⟩ Hk
  iapply (Scf.wp_for _ _ _ _ _ _ hl _ _ (fun k _ => TripI d L A s t k) hb)
  isplitl [Hw Hr Hp Ho]
  · unfold TripI
    iframe Hw Hr Hp
    iexists f
    isplitr
    · ipureintro
      intro j _ h
      exact absurd h (Nat.not_lt_zero _)
    iexact Ho
  · iintro %acc HI
    rw [show Scf.trips _ _ _ = 128 from htr]
    unfold TripI
    icases HI with ⟨Hw, Hr, Hp, %f, %hf, Ho⟩
    iapply Hk
    iframe Hw Hr Hp
    iapply (Entails.of_eq (pointsTo_congr (f := f) (g := ouC A L t) fun (j : S4x2048.Idx) hj =>
      hf j (Finset.mem_filter.mp hj).2 (by have : (j 1).val < 2048 := (j 1).isLt; omega)))
    iexact Ho

end Run

end Cert.Proof.Usage
-- ==== Proof.Ring.lean ====
/-
  The ring's copies, stated once for any slot and task: what issuing a task's copies leaves in flight, and what waiting for
  them gives back.
-/
module

public import proofs.«01_k».proof.Proof.Phase
public import proofs.«01_k».proof.Proof.TripRun

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## The tile's part of the result, task by task -/

/-- The number, within the tile, of the task that a cell of the result belongs to. -/
def taskOf (L : grid0.Coords) (j : S1024x16384.Idx) : ℕ := 8 * ((j 0).val - base L) + (j 1).val / 2048

/-- The tile's rows. -/
def inTile (L : grid0.Coords) (j : S1024x16384.Idx) : Prop := base L ≤ (j 0).val ∧ (j 0).val < base L + 32

instance (L : grid0.Coords) : DecidablePred (inTile L) := fun _ => instDecidableAnd

def tileSet (L : grid0.Coords) : Finset S1024x16384.Idx := Finset.univ.filter fun j => inTile L j
def chunk (L : grid0.Coords) (t : ℕ) : Finset S1024x16384.Idx := Finset.univ.filter fun j => inTile L j ∧ taskOf L j = t
def restSet (L : grid0.Coords) (t : ℕ) : Finset S1024x16384.Idx := Finset.univ.filter fun j => inTile L j ∧ t ≤ taskOf L j
def doneSet (L : grid0.Coords) (t : ℕ) : Finset S1024x16384.Idx := Finset.univ.filter fun j => inTile L j ∧ taskOf L j < t

theorem rest_step (L : grid0.Coords) (t : ℕ) : restSet L t = chunk L t ∪ restSet L (t + 1) := by
  ext j
  simp only [restSet, chunk, Finset.mem_union, Finset.mem_filter, Finset.mem_univ, true_and]
  constructor
  · rintro ⟨h, h'⟩
    rcases Nat.eq_or_lt_of_le h' with e | e
    · exact .inl ⟨h, e.symm⟩
    · exact .inr ⟨h, e⟩
  · rintro (⟨h, h'⟩ | ⟨h, h'⟩)
    · exact ⟨h, h'.ge⟩
    · exact ⟨h, by omega⟩

theorem rest_disj (L : grid0.Coords) (t : ℕ) : Disjoint (chunk L t) (restSet L (t + 1)) := by
  rw [Finset.disjoint_left]
  intro j h h'
  have h1 := (Finset.mem_filter.mp h).2.2
  have h2 := (Finset.mem_filter.mp h').2.2
  omega

theorem done_step (L : grid0.Coords) (t : ℕ) : doneSet L (t + 1) = doneSet L t ∪ chunk L t := by
  ext j
  simp only [doneSet, chunk, Finset.mem_union, Finset.mem_filter, Finset.mem_univ, true_and]
  constructor
  · rintro ⟨h, h'⟩
    rcases Nat.eq_or_lt_of_le (Nat.lt_succ_iff.mp h') with e | e
    · exact .inr ⟨h, e⟩
    · exact .inl ⟨h, e⟩
  · rintro (⟨h, h'⟩ | ⟨h, h'⟩)
    · exact ⟨h, by omega⟩
    · exact ⟨h, by omega⟩

theorem done_disj (L : grid0.Coords) (t : ℕ) : Disjoint (doneSet L t) (chunk L t) := by
  rw [Finset.disjoint_left]
  intro j h h'
  have h1 := (Finset.mem_filter.mp h).2.2
  have h2 := (Finset.mem_filter.mp h').2.2
  omega

theorem rest_zero (L : grid0.Coords) : restSet L 0 = tileSet L := by
  ext j; simp only [restSet, tileSet, Finset.mem_filter, Finset.mem_univ, true_and, Nat.zero_le, and_true]

theorem done_zero (L : grid0.Coords) : doneSet L 0 = ∅ := by
  ext j; simp [doneSet]

theorem done_all (L : grid0.Coords) : doneSet L 256 = tileSet L := by
  ext j
  simp only [doneSet, tileSet, Finset.mem_filter, Finset.mem_univ, true_and, and_iff_left_iff_imp]
  rintro ⟨h, h'⟩
  have h1 : (j 1).val < 16384 := (j 1).isLt
  unfold taskOf; omega

/-- The slice of the result that task `t`'s copy names is the task's part. -/
theorem set_chunk (L : grid0.Coords) (t : ℕ) (ht : t < 256)
    (ho : ∀ a, (![base L + t / 8, 2048 * (t % 8)] : Fin 2 → ℕ) a + S1x2048.size a ≤ S1024x16384.size a) :
    ((ouA.slice (Rect.unit (s := S1024x16384) ![base L + t / 8, 2048 * (t % 8)] S1x2048.size ho) (fun _ => rfl)).squeeze S2048 squeezes_S1x2048_S2048).view.set
      = chunk L t := by
  rw [View.set_reshape, View.set_slice_whole]
  ext j
  rw [Rect.mem_set_unit]
  simp only [chunk, Finset.mem_filter, Finset.mem_univ, true_and]
  have hb : (j 1).val < 16384 := (j 1).isLt
  constructor
  · intro h
    have h0 : base L + t / 8 ≤ (j 0).val ∧ (j 0).val < base L + t / 8 + 1 := h 0
    have h1 : 2048 * (t % 8) ≤ (j 1).val ∧ (j 1).val < 2048 * (t % 8) + 2048 := h 1
    refine ⟨⟨by omega, by omega⟩, ?_⟩
    unfold taskOf; omega
  · rintro ⟨⟨h, h'⟩, e⟩ x
    unfold taskOf at e
    match x with
    | ⟨0, _⟩ => exact ⟨by show base L + t / 8 ≤ (j 0).val; omega, by show (j 0).val < base L + t / 8 + 1; omega⟩
    | ⟨1, _⟩ => exact ⟨by show 2048 * (t % 8) ≤ (j 1).val; omega, by show (j 1).val < 2048 * (t % 8) + 2048; omega⟩

/-! ## What a slot's copy carries is the task's piece -/

theorem carries_ww (A : Ins F) (L : grid0.Coords) (s : Fin 4) (t : ℕ) (ht : t < 256)
    (ho : ∀ a, (![base L + t / 8, 0, 2048 * (t % 8)] : Fin 3 → ℕ) a + S1x2x2048.size a ≤ S1024x2x16384.size a) :
    (wwS s).view.read (Elt F) (wwC A L t)
      = ((wwA.slice (Rect.unit (s := S1024x2x16384) ![base L + t / 8, 0, 2048 * (t % 8)] S1x2x2048.size ho) (fun _ => rfl)).squeeze S2x2048 squeezes_S1x2x2048_S2x2048).view.read (Elt F) A.ww := by
  have hb := base_le L
  funext x
  obtain ⟨y, hy⟩ : ∃ y : S1x2x2048.Idx, y = Shape.reshapeEquiv (by decide) x := ⟨_, rfl⟩
  show wwC A L t ((Rect.unit (s := S4x2x2048) ![s.val, 0, 0] S1x2x2048.size (inbWW s)).emb (Shape.reshapeEquiv _ x))
    = A.ww ((Rect.unit (s := S1024x2x16384) ![base L + t / 8, 0, 2048 * (t % 8)] S1x2x2048.size ho).emb (Shape.reshapeEquiv _ x))
  rw [← hy]
  unfold wwC
  congr 1
  have y0 : (y 0).val < 1 := (y 0).isLt
  funext a
  match a with
  | ⟨0, _⟩ => exact Fin.ext (by show (base L + t / 8) % 1024 = base L + t / 8 + 1 * (y 0).val; omega)
  | ⟨1, _⟩ => exact Fin.ext (by show 0 + 1 * (y 1).val = 0 + 1 * (y 1).val; rfl)
  | ⟨2, _⟩ => exact Fin.ext (by show 2048 * (t % 8) + (0 + 1 * (y 2).val) = 2048 * (t % 8) + 1 * (y 2).val; omega)

theorem carries_rw (A : Ins F) (L : grid0.Coords) (s : Fin 4) (t : ℕ) (ht : t < 256)
    (ho : ∀ a, (![base L + t / 8, 0, 2048 * (t % 8)] : Fin 3 → ℕ) a + S1x4x2048.size a ≤ S1024x4x16384.size a) :
    (rwS s).view.read (Elt F) (rwC A L t)
      = ((rwA.slice (Rect.unit (s := S1024x4x16384) ![base L + t / 8, 0, 2048 * (t % 8)] S1x4x2048.size ho) (fun _ => rfl)).squeeze S4x2048 squeezes_S1x4x2048_S4x2048).view.read (Elt F) A.rw := by
  have hb := base_le L
  funext x
  obtain ⟨y, hy⟩ : ∃ y : S1x4x2048.Idx, y = Shape.reshapeEquiv (by decide) x := ⟨_, rfl⟩
  show rwC A L t ((Rect.unit (s := S4x4x2048) ![s.val, 0, 0] S1x4x2048.size (inbRW s)).emb (Shape.reshapeEquiv _ x))
    = A.rw ((Rect.unit (s := S1024x4x16384) ![base L + t / 8, 0, 2048 * (t % 8)] S1x4x2048.size ho).emb (Shape.reshapeEquiv _ x))
  rw [← hy]
  unfold rwC
  congr 1
  have y0 : (y 0).val < 1 := (y 0).isLt
  funext a
  match a with
  | ⟨0, _⟩ => exact Fin.ext (by show (base L + t / 8) % 1024 = base L + t / 8 + 1 * (y 0).val; omega)
  | ⟨1, _⟩ => exact Fin.ext (by show 0 + 1 * (y 1).val = 0 + 1 * (y 1).val; rfl)
  | ⟨2, _⟩ => exact Fin.ext (by show 2048 * (t % 8) + (0 + 1 * (y 2).val) = 2048 * (t % 8) + 1 * (y 2).val; omega)

theorem carries_pu (A : Ins F) (L : grid0.Coords) (s : Fin 4) (t : ℕ) (ht : t < 256)
    (ho : ∀ a, (![base L + t / 8, 2048 * (t % 8)] : Fin 2 → ℕ) a + S1x2048.size a ≤ S1024x16384.size a) :
    (puS s).view.read (Elt F) (puC A L t)
      = ((puA.slice (Rect.unit (s := S1024x16384) ![base L + t / 8, 2048 * (t % 8)] S1x2048.size ho) (fun _ => rfl)).squeeze S2048 squeezes_S1x2048_S2048).view.read (Elt F) A.pu := by
  have hb := base_le L
  funext x
  obtain ⟨y, hy⟩ : ∃ y : S1x2048.Idx, y = Shape.reshapeEquiv (by decide) x := ⟨_, rfl⟩
  show puC A L t ((Rect.unit (s := S4x2048) ![s.val, 0] S1x2048.size (inbPU s)).emb (Shape.reshapeEquiv _ x))
    = A.pu ((Rect.unit (s := S1024x16384) ![base L + t / 8, 2048 * (t % 8)] S1x2048.size ho).emb (Shape.reshapeEquiv _ x))
  rw [← hy]
  unfold puC
  congr 1
  have y0 : (y 0).val < 1 := (y 0).isLt
  funext a
  match a with
  | ⟨0, _⟩ => exact Fin.ext (by show (base L + t / 8) % 1024 = base L + t / 8 + 1 * (y 0).val; omega)
  | ⟨1, _⟩ => exact Fin.ext (by show 2048 * (t % 8) + (0 + 1 * (y 1).val) = 2048 * (t % 8) + 1 * (y 1).val; omega)

/-- The output slot, filled, is the task's piece of the result. -/
theorem carries_ou (A : Ins F) (L : grid0.Coords) (s : Fin 4) (t : ℕ) (ht : t < 256)
    (ho : ∀ a, (![base L + t / 8, 2048 * (t % 8)] : Fin 2 → ℕ) a + S1x2048.size a ≤ S1024x16384.size a) :
    ((ouA.slice (Rect.unit (s := S1024x16384) ![base L + t / 8, 2048 * (t % 8)] S1x2048.size ho) (fun _ => rfl)).squeeze S2048 squeezes_S1x2048_S2048).view.read (Elt F) (outG A)
      = (ouS s).view.read (Elt F) (ouC A L t) := by
  have hb := base_le L
  funext x
  obtain ⟨y, hy⟩ : ∃ y : S1x2048.Idx, y = Shape.reshapeEquiv (by decide) x := ⟨_, rfl⟩
  show outG A ((Rect.unit (s := S1024x16384) ![base L + t / 8, 2048 * (t % 8)] S1x2048.size ho).emb (Shape.reshapeEquiv _ x))
    = ouC A L t ((Rect.unit (s := S4x2048) ![s.val, 0] S1x2048.size (inbPU s)).emb (Shape.reshapeEquiv _ x))
  rw [← hy]
  unfold ouC outG
  have y0 : (y 0).val < 1 := (y 0).isLt
  congr 1
  · exact Fin.ext (by show base L + t / 8 + 1 * (y 0).val = (base L + t / 8) % 1024; omega)
  · exact Fin.ext (by show 2048 * (t % 8) + 1 * (y 1).val = 2048 * (t % 8) + (0 + 1 * (y 1).val); omega)

/-! ## The copies -/

/-- How many bytes of credit a copy of one task's piece of the result carries. -/
abbrev crOU : ℕ := ((ouA.slice (Rect.unit (s := S1024x16384) ![0, 0] S1x2048.size inb_S1024x16384_S1x2048_0_0) (fun _ => rfl)).squeeze S2048 squeezes_S1x2048_S2048).view.dmaCredit

section States

variable (d : Dev nD) (L : grid0.Coords) (A : Ins F) (s : Fin 4) (q : PosShare TreeShare) (t : ℕ)

/-- A slot not in use: its share of the source, its cells, its semaphore at zero. -/
def IdWW : sProp 𝕄 :=
  iprop((wwA.view.loc (thr d L) ↦{q} A.ww) ∗ (∃ f, wwV.view.loc (thr d L) ↦[setWW s]{fullShare} f) ∗ semVal (thr d L, .dma (semWW s)) 0)
def IdRW : sProp 𝕄 :=
  iprop((rwA.view.loc (thr d L) ↦{q} A.rw) ∗ (∃ f, rwV.view.loc (thr d L) ↦[setRW s]{fullShare} f) ∗ semVal (thr d L, .dma (semRW s)) 0)
def IdPU : sProp 𝕄 :=
  iprop((puA.view.loc (thr d L) ↦{q} A.pu) ∗ (∃ f, puV.view.loc (thr d L) ↦[setPU s]{fullShare} f) ∗ semVal (thr d L, .dma (semPU s)) 0)
def IdOU : sProp 𝕄 :=
  iprop((∃ f, ouV.view.loc (thr d L) ↦[setPU s]{fullShare} f) ∗ semVal (thr d L, .dma (semOU s)) 0)

/-- A slot's copy of task `t` in flight. -/
def FlWW : sProp 𝕄 :=
  Flight EC (thr d L) (.dma (semWW s)) none (wwS s).view.dmaCredit
    iprop((wwV.view.loc (thr d L) ↦[setWW s]{fullShare} wwC A L t) ∗ (wwA.view.loc (thr d L) ↦{q} A.ww))
def FlRW : sProp 𝕄 :=
  Flight EC (thr d L) (.dma (semRW s)) none (rwS s).view.dmaCredit
    iprop((rwV.view.loc (thr d L) ↦[setRW s]{fullShare} rwC A L t) ∗ (rwA.view.loc (thr d L) ↦{q} A.rw))
def FlPU : sProp 𝕄 :=
  Flight EC (thr d L) (.dma (semPU s)) none (puS s).view.dmaCredit
    iprop((puV.view.loc (thr d L) ↦[setPU s]{fullShare} puC A L t) ∗ (puA.view.loc (thr d L) ↦{q} A.pu))
def FlOU : sProp 𝕄 :=
  Flight EC (thr d L) (.dma (semOU s)) none crOU
    iprop((ouA.view.loc (thr d L) ↦[chunk L t]{fullShare} outG A) ∗ (ouV.view.loc (thr d L) ↦[setPU s]{fullShare} ouC A L t))

end States

section Copies

variable {defs : Defs nD τ sig (Elt F) Λ₀} {𝒲 : Variants} {bd : Option 𝒲.V} {Q : PUnit.{1} → sProp (MT nD τ sig (HIx 1) (Elt F) ℕ UU ℕ)}
variable {d : Dev nD} {L : grid0.Coords} {A : Ins F} {s : Fin 4} {q : PosShare TreeShare} {t : ℕ} {O : CellTallies nD τ sig (HIx 1)} {W : Waits sig (HIx 1)}

theorem wp_enqWW (ht : t < 256) {o : Fin 3 → ℕ} {ho : ∀ a, o a + S1x2x2048.size a ≤ S1024x2x16384.size a} (eo : o = ![base L + t / 8, 0, 2048 * (t % 8)]) :
    IdWW d L A s q ⊢ iprop((FlWW d L A s q t -∗ Q ⟨⟩) -∗ wp frame (wpE defs 𝒲 (thr d L) bd) Set.univ (enqWW (F := F) L s o ho) Q) := by
  subst eo
  have h := issue_whole (F := F) (defs := defs) (𝒲 := 𝒲) (bd := bd) (Q := Q) (c := thr d L) (sm := semWW s) (q := q) (fs := A.ww) (C := wwC A L t)
    (src := (wwA.slice (Rect.unit (s := S1024x2x16384) ![base L + t / 8, 0, 2048 * (t % 8)] S1x2x2048.size ho) (fun _ => rfl)).squeeze S2x2048 squeezes_S1x2x2048_S2x2048)
    (dst := wwS s) (hsrc := (View.wordExact_bits rfl).reshape _ _) (hdst := (View.wordExact_bits rfl).reshape _ _) (hsem := ⟨Or.inl rfl, trivial⟩)
    (by decide) (carries_ww A L s t ht ho)
  rw [set_wwS] at h
  exact h

theorem wp_waitWW :
    iprop(FlWW d L A s q t ∗ Owing (thr d L) O W)
      ⊢ iprop((iprop((((wwV.view.loc (thr d L) ↦[setWW s]{fullShare} wwC A L t) ∗ (wwA.view.loc (thr d L) ↦{q} A.ww))) ∗ semVal (thr d L, .dma (semWW s)) 0 ∗ Owing (thr d L) O W) -∗ Q ⟨⟩)
          -∗ wp frame (wpE defs 𝒲 (thr d L) bd) Set.univ (waitWW (F := F) L s) Q) :=
  wait_copy rfl

theorem wp_enqRW (ht : t < 256) {o : Fin 3 → ℕ} {ho : ∀ a, o a + S1x4x2048.size a ≤ S1024x4x16384.size a} (eo : o = ![base L + t / 8, 0, 2048 * (t % 8)]) :
    IdRW d L A s q ⊢ iprop((FlRW d L A s q t -∗ Q ⟨⟩) -∗ wp frame (wpE defs 𝒲 (thr d L) bd) Set.univ (enqRW (F := F) L s o ho) Q) := by
  subst eo
  have h := issue_whole (F := F) (defs := defs) (𝒲 := 𝒲) (bd := bd) (Q := Q) (c := thr d L) (sm := semRW s) (q := q) (fs := A.rw) (C := rwC A L t)
    (src := (rwA.slice (Rect.unit (s := S1024x4x16384) ![base L + t / 8, 0, 2048 * (t % 8)] S1x4x2048.size ho) (fun _ => rfl)).squeeze S4x2048 squeezes_S1x4x2048_S4x2048)
    (dst := rwS s) (hsrc := (View.wordExact_bits rfl).reshape _ _) (hdst := (View.wordExact_bits rfl).reshape _ _) (hsem := ⟨Or.inl rfl, trivial⟩)
    (by decide) (carries_rw A L s t ht ho)
  rw [set_rwS] at h
  exact h

theorem wp_waitRW :
    iprop(FlRW d L A s q t ∗ Owing (thr d L) O W)
      ⊢ iprop((iprop((((rwV.view.loc (thr d L) ↦[setRW s]{fullShare} rwC A L t) ∗ (rwA.view.loc (thr d L) ↦{q} A.rw))) ∗ semVal (thr d L, .dma (semRW s)) 0 ∗ Owing (thr d L) O W) -∗ Q ⟨⟩)
          -∗ wp frame (wpE defs 𝒲 (thr d L) bd) Set.univ (waitRW (F := F) L s) Q) :=
  wait_copy rfl

theorem wp_enqPU (ht : t < 256) {o : Fin 2 → ℕ} {ho : ∀ a, o a + S1x2048.size a ≤ S1024x16384.size a} (eo : o = ![base L + t / 8, 2048 * (t % 8)]) :
    IdPU d L A s q ⊢ iprop((FlPU d L A s q t -∗ Q ⟨⟩) -∗ wp frame (wpE defs 𝒲 (thr d L) bd) Set.univ (enqPU (F := F) L s o ho) Q) := by
  subst eo
  have h := issue_whole (F := F) (defs := defs) (𝒲 := 𝒲) (bd := bd) (Q := Q) (c := thr d L) (sm := semPU s) (q := q) (fs := A.pu) (C := puC A L t)
    (src := (puA.slice (Rect.unit (s := S1024x16384) ![base L + t / 8, 2048 * (t % 8)] S1x2048.size ho) (fun _ => rfl)).squeeze S2048 squeezes_S1x2048_S2048)
    (dst := puS s) (hsrc := (View.wordExact_bits rfl).reshape _ _) (hdst := (View.wordExact_bits rfl).reshape _ _) (hsem := ⟨Or.inl rfl, trivial⟩)
    (by decide) (carries_pu A L s t ht ho)
  rw [set_puS] at h
  exact h

theorem wp_waitPU :
    iprop(FlPU d L A s q t ∗ Owing (thr d L) O W)
      ⊢ iprop((iprop((((puV.view.loc (thr d L) ↦[setPU s]{fullShare} puC A L t) ∗ (puA.view.loc (thr d L) ↦{q} A.pu))) ∗ semVal (thr d L, .dma (semPU s)) 0 ∗ Owing (thr d L) O W) -∗ Q ⟨⟩)
          -∗ wp frame (wpE defs 𝒲 (thr d L) bd) Set.univ (waitPU (F := F) L s) Q) :=
  wait_copy rfl

theorem wp_enqOU (ht : t < 256) {o : Fin 2 → ℕ} {ho : ∀ a, o a + S1x2048.size a ≤ S1024x16384.size a} (eo : o = ![base L + t / 8, 2048 * (t % 8)]) :
    iprop((ouV.view.loc (thr d L) ↦[setPU s]{fullShare} ouC A L t) ∗ (∃ f, ouA.view.loc (thr d L) ↦[chunk L t]{fullShare} f) ∗ semVal (thr d L, .dma (semOU s)) 0)
      ⊢ iprop((FlOU d L A s t -∗ Q ⟨⟩) -∗ wp frame (wpE defs 𝒲 (thr d L) bd) Set.univ (enqOU (F := F) L s o ho) Q) := by
  subst eo
  have h := issue_part (F := F) (defs := defs) (𝒲 := 𝒲) (bd := bd) (Q := Q) (c := thr d L) (sm := semOU s) (q := fullShare) (fs := ouC A L t) (C := outG A)
    (src := ouS s)
    (dst := (ouA.slice (Rect.unit (s := S1024x16384) ![base L + t / 8, 2048 * (t % 8)] S1x2048.size ho) (fun _ => rfl)).squeeze S2048 squeezes_S1x2048_S2048)
    (hsrc := (View.wordExact_bits rfl).reshape _ _) (hdst := (View.wordExact_bits rfl).reshape _ _) (hsem := ⟨Or.inl rfl, trivial⟩)
    (by decide) (carries_ou A L s t ht ho)
  rw [set_ouS, set_chunk L t ht ho] at h
  exact h

theorem wp_waitOU :
    iprop(FlOU d L A s t ∗ Owing (thr d L) O W)
      ⊢ iprop((iprop(((ouA.view.loc (thr d L) ↦[chunk L t]{fullShare} outG A) ∗ (ouV.view.loc (thr d L) ↦[setPU s]{fullShare} ouC A L t))
            ∗ semVal (thr d L, .dma (semOU s)) 0 ∗ Owing (thr d L) O W) -∗ Q ⟨⟩)
          -∗ wp frame (wpE defs 𝒲 (thr d L) bd) Set.univ (waitOU (F := F) L s) Q) :=
  wait_copy rfl

end Copies

end Cert.Proof.Usage
-- ==== Proof.PhaseRun.lean ====
/-
  The run of one phase: from the task's inputs in flight to its result in flight, the next-but-two task's inputs issued on
  the way and the slot's earlier result collected.
-/
module

public import proofs.«01_k».proof.Proof.Ring

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

section States

variable (d : Dev nD) (L : grid0.Coords) (A : Ins F) (s : Fin 4) (q : PosShare TreeShare) (t : ℕ)

/-- A ring slot's three inputs: not in use; in flight for task `t`; in flight as long as there is a task `t`. -/
def Idle : sProp 𝕄 := iprop(IdWW d L A s q ∗ IdRW d L A s q ∗ IdPU d L A s q)
def Fl3 : sProp 𝕄 := iprop(FlWW d L A s q t ∗ FlRW d L A s q t ∗ FlPU d L A s q t)
def InSlot : sProp 𝕄 := if t < 256 then Fl3 d L A s q t else Idle d L A s q

/-- A slot's output when task `t` is next in it: the copy of the task four earlier in flight, if there was one. -/
def OutSlot : sProp 𝕄 := if 4 ≤ t then FlOU d L A s (t - 4) else IdOU (F := F) d L s

/-- The part of the result not yet handed to a copy, and the part that is written. -/
def Rest : sProp 𝕄 := iprop(∃ f : Buf (Elt F) (ouA.view.loc (thr d L)), ouA.view.loc (thr d L) ↦[restSet L t]{fullShare} f)
def Done : sProp 𝕄 := iprop(ouA.view.loc (thr d L) ↦[doneSet L t]{fullShare} outG A)

/-- The tile's gates, in its own memory. -/
def Gates : sProp 𝕄 := iprop(fgV.view.loc (thr d L) ↦[Finset.univ]{fullShare} fgC A L)

end States

section Run

variable {defs : Defs nD τ sig (Elt F) Λ₀} {𝒲 : Variants} {bd : Option 𝒲.V}
variable {d : Dev nD} {L : grid0.Coords} {A : Ins F} {s : Fin 4} {q : PosShare TreeShare} {t : ℕ} {O : CellTallies nD τ sig (HIx 1)} {W : Waits sig (HIx 1)}

/-- Issuing a task's three copies into an idle slot. -/
theorem wp_fill {Q : PUnit.{1} → sProp (MT nD τ sig (HIx 1) (Elt F) ℕ UU ℕ)} (ht : t < 256) {ow or : Fin 3 → ℕ} {op : Fin 2 → ℕ}
    {hw : ∀ a, ow a + S1x2x2048.size a ≤ S1024x2x16384.size a} {hr : ∀ a, or a + S1x4x2048.size a ≤ S1024x4x16384.size a}
    {hp : ∀ a, op a + S1x2048.size a ≤ S1024x16384.size a}
    (ew : ow = ![base L + t / 8, 0, 2048 * (t % 8)]) (er : or = ![base L + t / 8, 0, 2048 * (t % 8)]) (ep : op = ![base L + t / 8, 2048 * (t % 8)]) :
    Idle d L A s q ⊢ iprop((Fl3 d L A s q t -∗ Q ⟨⟩)
      -∗ wp frame (wpE defs 𝒲 (thr d L) bd) Set.univ (do enqWW (F := F) L s ow hw; enqRW L s or hr; enqPU L s op hp) Q) := by
  unfold Idle Fl3
  iintro ⟨Hw, Hr, Hp⟩ Hk
  rw [wp_bind]
  iapply (wp_enqWW ht ew) $$ Hw
  iintro Hw
  rw [wp_bind]
  iapply (wp_enqRW ht er) $$ Hr
  iintro Hr
  iapply (wp_enqPU ht ep) $$ Hp
  iintro Hp
  iapply Hk
  iframe Hw Hr Hp

/-- The prefetch. -/
theorem wp_pref {Q : PUnit.{1} → sProp (MT nD τ sig (HIx 1) (Elt F) ℕ UU ℕ)} {c : BitVec 1} (hc : c = 1#1 ↔ t < 256) {ow or : Fin 3 → ℕ} {op : Fin 2 → ℕ}
    {hw : c = 1#1 → ∀ a, ow a + S1x2x2048.size a ≤ S1024x2x16384.size a} {hr : c = 1#1 → ∀ a, or a + S1x4x2048.size a ≤ S1024x4x16384.size a}
    {hp : c = 1#1 → ∀ a, op a + S1x2048.size a ≤ S1024x16384.size a}
    (ew : t < 256 → ow = ![base L + t / 8, 0, 2048 * (t % 8)]) (er : t < 256 → or = ![base L + t / 8, 0, 2048 * (t % 8)])
    (ep : t < 256 → op = ![base L + t / 8, 2048 * (t % 8)]) :
    Idle d L A s q ⊢ iprop((InSlot d L A s q t -∗ Q ⟨⟩)
      -∗ wp frame (wpE defs 𝒲 (thr d L) bd) Set.univ (prefP (F := F) L s c ow or op hw hr hp) Q) := by
  unfold prefP InSlot
  by_cases h : c = 1#1
  · have ht := hc.mp h
    rw [dif_pos h, if_pos ht]
    exact wp_fill ht (ew ht) (er ht) (ep ht)
  · rw [dif_neg h, if_neg fun ht => h (hc.mpr ht)]
    iintro Hi Hk
    rw [wp_pure]; imodintro
    iapply Hk; iexact Hi

/-- Collecting the slot's earlier result. -/
theorem wp_owait {Q : PUnit.{1} → sProp (MT nD τ sig (HIx 1) (Elt F) ℕ UU ℕ)} {w : BitVec 1} (hw : w = 1#1 ↔ 4 ≤ t) :
    iprop(OutSlot d L A s t ∗ Done d L A (t - 4) ∗ Owing (thr d L) O W)
      ⊢ iprop((iprop(IdOU (F := F) d L s ∗ Done d L A (t - 3) ∗ Owing (thr d L) O W) -∗ Q ⟨⟩)
        -∗ wp frame (wpE defs 𝒲 (thr d L) bd) Set.univ (owaitP (F := F) L s w) Q) := by
  unfold owaitP OutSlot Done
  by_cases h : w = 1#1
  · have ht := hw.mp h
    rw [if_pos h, if_pos ht, show t - 3 = t - 4 + 1 by omega, done_step]
    iintro ⟨Hf, Hd, HO⟩ Hk
    iapply wp_waitOU $$ [Hf HO]
    · iframe Hf HO
    iintro ⟨⟨Hc, Ho⟩, Hv, HO⟩
    iapply Hk
    unfold IdOU
    iframe HO Hv
    isplitl [Ho]
    · iexists _; iexact Ho
    iapply (pointsTo_union (done_disj L (t - 4))).2
    iframe Hd Hc
  · have ht : ¬ 4 ≤ t := fun ht => h (hw.mpr ht)
    rw [if_neg h, if_neg ht, show t - 3 = t - 4 by omega]
    iintro ⟨Hf, Hd, HO⟩ Hk
    rw [wp_pure]; imodintro
    iapply Hk
    iframe Hf Hd HO

/-- The gate vector that the tile loads for task `t` and gate `h`. -/
theorem gate_read (A : Ins F) (L : grid0.Coords) (t : ℕ) (h : Fin 4) (inb : ∀ a, (![t / 8, h.val, 0] : Fin 3 → ℕ) a + S1x1x16.size a ≤ S32x4x16.size a) :
    GateIs A L t h ((fgV.access (Rect.unit (s := S32x4x16) ![t / 8, h.val, 0] S1x1x16.size inb)).read (Elt F) (fgC A L)) := by
  intro j
  show A.fg _ = A.fg _
  congr 1
  funext a
  match a with
  | ⟨0, _⟩ => exact Fin.ext (by show (base L + 8 * (t / 8 + 1 * 0) / 8) % 1024 = (base L + t / 8) % 1024; congr 2; omega)
  | ⟨1, _⟩ => exact Fin.ext (by show h.val + 1 * 0 = h.val; omega)

/-- A load of one gate gives the row's gate in every lane. -/
theorem wp_gate {h : Fin 4} {Q : Vec F S1x1x16 .f32 → sProp (MT nD τ sig (HIx 1) (Elt F) ℕ UU ℕ)} {f : Fin 3 → ℕ} {hf : ∀ a, f a + S1x1x16.size a ≤ S32x4x16.size a}
    (ef : f = ![t / 8, h.val, 0]) :
    Gates d L A ⊢ iprop((∀ g, ⌜GateIs A L t h g⌝ -∗ Gates d L A -∗ Q g) -∗ wp frame (wpE defs 𝒲 (thr d L) bd) Set.univ (ldG (F := F) L f hf) Q) := by
  subst ef
  unfold Gates
  iintro Hg Hk
  iapply (load_slot (c := thr d L) (m := fgV) (r := Rect.unit (s := S32x4x16) ![t / 8, h.val, 0] S1x1x16.size hf) (S := Finset.univ) (q := fullShare) (f := fgC A L)
    (Finset.subset_univ _)) $$ Hg
  iintro Hg
  iapply Hk
  · ipureintro
    exact gate_read A L t h hf
  iexact Hg

/-- A task's part of the result, out of what is left. -/
theorem rest_split : Rest (F := F) d L t ⊢ iprop((∃ f : Buf (Elt F) (ouA.view.loc (thr d L)), ouA.view.loc (thr d L) ↦[chunk L t]{fullShare} f) ∗ Rest (F := F) d L (t + 1)) := by
  unfold Rest
  have h (f : Buf (Elt F) (ouA.view.loc (thr d L))) := (pointsTo_union (ℓ := ouA.view.loc (thr d L)) (q := fullShare) (f := f) (Ix := HIx 1) (Name := ℕ) (U := UU) (Lvl := ℕ) (rest_disj L t)).1
  rw [← rest_step L t] at h
  iintro ⟨%f, H⟩
  ihave H2 := h f $$ H
  icases H2 with ⟨H1, H2⟩
  isplitl [H1]
  · iexists f; iexact H1
  · iexists f; iexact H2

/-- One phase: task `t` in slot `s`, the prefetch for task `t + 3` into slot `s'`. -/
theorem wp_phase {s' : Fin 4} {q' : PosShare TreeShare} (ht : t < 256) {c w : BitVec 1} (hc : c = 1#1 ↔ t + 3 < 256) (hw : w = 1#1 ↔ 4 ≤ t)
    {ow or : Fin 3 → ℕ} {op : Fin 2 → ℕ}
    {iw : c = 1#1 → ∀ a, ow a + S1x2x2048.size a ≤ S1024x2x16384.size a} {ir : c = 1#1 → ∀ a, or a + S1x4x2048.size a ≤ S1024x4x16384.size a}
    {ip : c = 1#1 → ∀ a, op a + S1x2048.size a ≤ S1024x16384.size a}
    (ew : t + 3 < 256 → ow = ![base L + (t + 3) / 8, 0, 2048 * ((t + 3) % 8)]) (er : t + 3 < 256 → or = ![base L + (t + 3) / 8, 0, 2048 * ((t + 3) % 8)])
    (ep : t + 3 < 256 → op = ![base L + (t + 3) / 8, 2048 * ((t + 3) % 8)])
    {f0 f1 f2 f3 : Fin 3 → ℕ} {hf0 : ∀ a, f0 a + S1x1x16.size a ≤ S32x4x16.size a} {hf1 : ∀ a, f1 a + S1x1x16.size a ≤ S32x4x16.size a}
    {hf2 : ∀ a, f2 a + S1x1x16.size a ≤ S32x4x16.size a} {hf3 : ∀ a, f3 a + S1x1x16.size a ≤ S32x4x16.size a}
    (ef0 : f0 = ![t / 8, 0, 0]) (ef1 : f1 = ![t / 8, 1, 0]) (ef2 : f2 = ![t / 8, 2, 0]) (ef3 : f3 = ![t / 8, 3, 0])
    {l : Scf.Loop 32} {hl : l.OK} (htr : l.trips = 128)
    {body : Vec F S1x1x16 .f32 → Vec F S1x1x16 .f32 → Vec F S1x1x16 .f32 → Vec F S1x1x16 .f32 → Fin l.trips → Unit → PT F L}
    (hb : ∀ g0 g1 g2 g3, GateIs A L t 0 g0 → GateIs A L t 1 g1 → GateIs A L t 2 g2 → GateIs A L t 3 g3 → ∀ k acc,
      TripI d L A s t k.val ⊢ wp frame (wpE defs 𝒲 (thr d L) bd) Set.univ (body g0 g1 g2 g3 k acc) fun _ => TripI d L A s t (k.val + 1))
    {oo : Fin 2 → ℕ} {ho : ∀ a, oo a + S1x2048.size a ≤ S1024x16384.size a} (eo : oo = ![base L + t / 8, 2048 * (t % 8)])
    {Q : PUnit.{1} → sProp (MT nD τ sig (HIx 1) (Elt F) ℕ UU ℕ)} :
    iprop(InSlot d L A s q t ∗ Idle d L A s' q' ∗ OutSlot d L A s t ∗ Rest (F := F) d L t ∗ Done d L A (t - 4) ∗ Gates d L A ∗ Owing (thr d L) O W)
      ⊢ iprop((iprop(Idle d L A s q ∗ InSlot d L A s' q' (t + 3) ∗ OutSlot d L A s (t + 4) ∗ Rest (F := F) d L (t + 1) ∗ Done d L A (t - 3) ∗ Gates d L A
          ∗ Owing (thr d L) O W) -∗ Q ⟨⟩)
        -∗ wp frame (wpE defs 𝒲 (thr d L) bd) Set.univ
          (phaseP (F := F) L s s' c w ow or op iw ir ip f0 f1 f2 f3 hf0 hf1 hf2 hf3 l hl body oo ho) Q) := by
  unfold phaseP
  rw [InSlot, if_pos ht, Fl3]
  iintro ⟨⟨Hww, Hrw, Hpu⟩, Hid, Hou, Hrest, Hdone, Hg, HO⟩ Hk
  rw [wp_bind]
  iapply (wp_pref hc ew er ep) $$ Hid
  iintro Hin
  rw [wp_bind]
  iapply (wp_owait hw) $$ [Hou Hdone HO]
  · iframe Hou Hdone HO
  iintro ⟨Hou, Hdone, HO⟩
  rw [wp_bind]
  iapply wp_waitWW $$ [Hww HO]
  · iframe Hww HO
  iintro ⟨⟨Hww, Hsww⟩, Hvww, HO⟩
  rw [wp_bind]
  iapply wp_waitRW $$ [Hrw HO]
  · iframe Hrw HO
  iintro ⟨⟨Hrw, Hsrw⟩, Hvrw, HO⟩
  rw [wp_bind]
  iapply wp_waitPU $$ [Hpu HO]
  · iframe Hpu HO
  iintro ⟨⟨Hpu, Hspu⟩, Hvpu, HO⟩
  rw [wp_bind]
  iapply (wp_gate (h := 0) ef0) $$ Hg
  iintro %g0 %h0 Hg
  rw [wp_bind]
  iapply (wp_gate (h := 1) ef1) $$ Hg
  iintro %g1 %h1 Hg
  rw [wp_bind]
  iapply (wp_gate (h := 2) ef2) $$ Hg
  iintro %g2 %h2 Hg
  rw [wp_bind]
  iapply (wp_gate (h := 3) ef3) $$ Hg
  iintro %g3 %h3 Hg
  rw [wp_bind]
  unfold IdOU
  icases Hou with ⟨Hou, Hvou⟩
  iapply (wp_trips d L A s t l hl htr (hb g0 g1 g2 g3 h0 h1 h2 h3)) $$ [Hww Hrw Hpu Hou]
  · iframe Hww Hrw Hpu Hou
  iintro ⟨Hww, Hrw, Hpu, Hou⟩
  ihave Hr2 := rest_split $$ Hrest
  icases Hr2 with ⟨Hch, Hrest⟩
  iapply (wp_enqOU ht eo) $$ [Hou Hch Hvou]
  · iframe Hou Hvou Hch
  iintro Hfl
  iapply Hk
  unfold Idle IdWW IdRW IdPU OutSlot
  rw [if_pos (show 4 ≤ t + 4 by omega), show t + 4 - 4 = t by omega]
  iframe Hin Hfl Hdone Hg HO Hsww Hvww Hsrw Hvrw Hspu Hvpu
  isplitl [Hww Hrw Hpu]
  · isplitl [Hww]
    · iexists _; iexact Hww
    isplitl [Hrw]
    · iexists _; iexact Hrw
    · iexists _; iexact Hpu
  iexact Hrest

end Run

end Cert.Proof.Usage
-- ==== Proof.Offsets.lean ====
/-
  The program's index arithmetic, in closed form: which task's row and columns each copy of the outer loop names, which row
  of the gates each load reads, and when a prefetch or a wait happens.
-/
module

public import proofs.«01_k».proof.Proof.Phase

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

/-! The prefetches' slices. -/

theorem off11 : ∀ (i : grid0.Coords) (k : Fin k0_t1_loop.trips), 4 * k.val + 0 + 3 < 256 → k0_off11 i k = ![base i + (4 * k.val + 0 + 3) / 8, 0, 2048 * ((4 * k.val + 0 + 3) % 8)] := by decide +kernel
theorem off12 : ∀ (i : grid0.Coords) (k : Fin k0_t1_loop.trips), 4 * k.val + 0 + 3 < 256 → k0_off12 i k = ![base i + (4 * k.val + 0 + 3) / 8, 0, 2048 * ((4 * k.val + 0 + 3) % 8)] := by decide +kernel
theorem off13 : ∀ (i : grid0.Coords) (k : Fin k0_t1_loop.trips), 4 * k.val + 0 + 3 < 256 → k0_off13 i k = ![base i + (4 * k.val + 0 + 3) / 8, 2048 * ((4 * k.val + 0 + 3) % 8)] := by decide +kernel
theorem cond1 : ∀ k : Fin k0_t1_loop.trips, k0_cond1 k = 1#1 ↔ 4 * k.val + 0 + 3 < 256 := by decide +kernel
theorem off26 : ∀ (i : grid0.Coords) (k : Fin k0_t1_loop.trips), 4 * k.val + 1 + 3 < 256 → k0_off26 i k = ![base i + (4 * k.val + 1 + 3) / 8, 0, 2048 * ((4 * k.val + 1 + 3) % 8)] := by decide +kernel
theorem off27 : ∀ (i : grid0.Coords) (k : Fin k0_t1_loop.trips), 4 * k.val + 1 + 3 < 256 → k0_off27 i k = ![base i + (4 * k.val + 1 + 3) / 8, 0, 2048 * ((4 * k.val + 1 + 3) % 8)] := by decide +kernel
theorem off28 : ∀ (i : grid0.Coords) (k : Fin k0_t1_loop.trips), 4 * k.val + 1 + 3 < 256 → k0_off28 i k = ![base i + (4 * k.val + 1 + 3) / 8, 2048 * ((4 * k.val + 1 + 3) % 8)] := by decide +kernel
theorem cond3 : ∀ k : Fin k0_t1_loop.trips, k0_cond3 k = 1#1 ↔ 4 * k.val + 1 + 3 < 256 := by decide +kernel
theorem off36 : ∀ (i : grid0.Coords) (k : Fin k0_t1_loop.trips), 4 * k.val + 2 + 3 < 256 → k0_off36 i k = ![base i + (4 * k.val + 2 + 3) / 8, 0, 2048 * ((4 * k.val + 2 + 3) % 8)] := by decide +kernel
theorem off37 : ∀ (i : grid0.Coords) (k : Fin k0_t1_loop.trips), 4 * k.val + 2 + 3 < 256 → k0_off37 i k = ![base i + (4 * k.val + 2 + 3) / 8, 0, 2048 * ((4 * k.val + 2 + 3) % 8)] := by decide +kernel
theorem off38 : ∀ (i : grid0.Coords) (k : Fin k0_t1_loop.trips), 4 * k.val + 2 + 3 < 256 → k0_off38 i k = ![base i + (4 * k.val + 2 + 3) / 8, 2048 * ((4 * k.val + 2 + 3) % 8)] := by decide +kernel
theorem cond5 : ∀ k : Fin k0_t1_loop.trips, k0_cond5 k = 1#1 ↔ 4 * k.val + 2 + 3 < 256 := by decide +kernel
theorem off46 : ∀ (i : grid0.Coords) (k : Fin k0_t1_loop.trips), 4 * k.val + 3 + 3 < 256 → k0_off46 i k = ![base i + (4 * k.val + 3 + 3) / 8, 0, 2048 * ((4 * k.val + 3 + 3) % 8)] := by decide +kernel
theorem off47 : ∀ (i : grid0.Coords) (k : Fin k0_t1_loop.trips), 4 * k.val + 3 + 3 < 256 → k0_off47 i k = ![base i + (4 * k.val + 3 + 3) / 8, 0, 2048 * ((4 * k.val + 3 + 3) % 8)] := by decide +kernel
theorem off48 : ∀ (i : grid0.Coords) (k : Fin k0_t1_loop.trips), 4 * k.val + 3 + 3 < 256 → k0_off48 i k = ![base i + (4 * k.val + 3 + 3) / 8, 2048 * ((4 * k.val + 3 + 3) % 8)] := by decide +kernel
theorem cond7 : ∀ k : Fin k0_t1_loop.trips, k0_cond7 k = 1#1 ↔ 4 * k.val + 3 + 3 < 256 := by decide +kernel

/-! The results' slices, the gates' rows, and when a result is waited for. -/

theorem off25 : ∀ (i : grid0.Coords) (k : Fin k0_t1_loop.trips) (s : Fin 4), k0_off25 i k (BitVec.ofNat 32 s.val) = ![base i + (4 * k.val + s.val) / 8, 2048 * ((4 * k.val + s.val) % 8)] := by decide +kernel
theorem off14 : ∀ (k : Fin k0_t1_loop.trips) (s : Fin 4), k0_off14 k (BitVec.ofNat 32 s.val) = ![(4 * k.val + s.val) / 8, 0, 0] := by decide +kernel
theorem off15 : ∀ (k : Fin k0_t1_loop.trips) (s : Fin 4), k0_off15 k (BitVec.ofNat 32 s.val) = ![(4 * k.val + s.val) / 8, 1, 0] := by decide +kernel
theorem off16 : ∀ (k : Fin k0_t1_loop.trips) (s : Fin 4), k0_off16 k (BitVec.ofNat 32 s.val) = ![(4 * k.val + s.val) / 8, 2, 0] := by decide +kernel
theorem off17 : ∀ (k : Fin k0_t1_loop.trips) (s : Fin 4), k0_off17 k (BitVec.ofNat 32 s.val) = ![(4 * k.val + s.val) / 8, 3, 0] := by decide +kernel
theorem owait_iff : ∀ (k : Fin k0_t1_loop.trips) (s : Fin 4),
    wOf (Scalar.addi (Scalar.muli (Scf.iv 0#32 1#32 k) 4#32) (BitVec.ofNat 32 s.val)) = 1#1 ↔ 4 ≤ 4 * k.val + s.val := by decide +kernel

theorem trips1 : k0_t1_loop.trips = 64 := by decide +kernel
theorem trips2 : k0_t2_loop.trips = 128 := by decide +kernel
theorem trips3 : k0_t3_loop.trips = 128 := by decide +kernel
theorem trips4 : k0_t4_loop.trips = 128 := by decide +kernel
theorem trips5 : k0_t5_loop.trips = 128 := by decide +kernel

/-! The first three tasks' slices. -/

theorem off2 : ∀ i : grid0.Coords, k0_off2 i = ![base i + (0) / 8, 0, 2048 * ((0) % 8)] := by decide +kernel
theorem off3 : ∀ i : grid0.Coords, k0_off3 i = ![base i + (0) / 8, 0, 2048 * ((0) % 8)] := by decide +kernel
theorem off4 : ∀ i : grid0.Coords, k0_off4 i = ![base i + (0) / 8, 2048 * ((0) % 8)] := by decide +kernel
theorem off5 : ∀ i : grid0.Coords, k0_off5 i = ![base i + (1) / 8, 0, 2048 * ((1) % 8)] := by decide +kernel
theorem off6 : ∀ i : grid0.Coords, k0_off6 i = ![base i + (1) / 8, 0, 2048 * ((1) % 8)] := by decide +kernel
theorem off7 : ∀ i : grid0.Coords, k0_off7 i = ![base i + (1) / 8, 2048 * ((1) % 8)] := by decide +kernel
theorem off8 : ∀ i : grid0.Coords, k0_off8 i = ![base i + (2) / 8, 0, 2048 * ((2) % 8)] := by decide +kernel
theorem off9 : ∀ i : grid0.Coords, k0_off9 i = ![base i + (2) / 8, 0, 2048 * ((2) % 8)] := by decide +kernel
theorem off10 : ∀ i : grid0.Coords, k0_off10 i = ![base i + (2) / 8, 2048 * ((2) % 8)] := by decide +kernel
theorem off1 : ∀ i : grid0.Coords, k0_off1 i = ![base i, 0, 0] := by decide +kernel

end Cert.Proof.Usage
-- ==== Proof.Outer.lean ====
/-
  The outer loop: four phases a trip, 64 trips, 256 tasks.
-/
module

public import proofs.«01_k».proof.Proof.PhaseRun
public import proofs.«01_k».proof.Proof.Offsets

@[expose] public section

noncomputable section

namespace Cert.Proof.Usage

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

section Run

variable {defs : Defs nD τ sig (Elt F) Λ₀} {𝒲 : Variants} {bd : Option 𝒲.V}
variable {d : Dev nD} {L : grid0.Coords} {A : Ins F} {O : CellTallies nD τ sig (HIx 1)} {W : Waits sig (HIx 1)}

/-- The number of the first task of an outer trip, as the program computes it. -/
abbrev v111 (k : Fin k0_t1_loop.trips) : BitVec 32 := Scalar.muli (Scf.iv 0#32 1#32 k) 4#32

attribute [local irreducible] k0_cond1 k0_cond3 k0_cond5 k0_cond7 k0_off14 k0_off15 k0_off16 k0_off17 k0_off25
attribute [local irreducible] k0_off11 k0_off12 k0_off13 k0_off26 k0_off27 k0_off28 k0_off36 k0_off37 k0_off38 k0_off46 k0_off47 k0_off48

/-- Phase 0 of trip `k`, at the offsets and conditions the program computes. Phases 1 to 3 follow likewise. -/
theorem run_phase0 (k : Fin k0_t1_loop.trips) {ti tq tr da db : ℕ} (hi : ti = 4 * k.val + 0 + 3) (ho : tq = 4 * k.val + 0 + 4) (hr : tr = 4 * k.val + 0 + 1) (ha : da = 4 * k.val + 0 - 4)
    (hb : db = 4 * k.val + 0 - 3) {q q' : PosShare TreeShare} {Q : PUnit.{1} → sProp (MT nD τ sig (HIx 1) (Elt F) ℕ UU ℕ)} :
    iprop(InSlot d L A 0 q (4 * k.val) ∗ Idle d L A 3 q' ∗ OutSlot d L A 0 (4 * k.val) ∗ Rest (F := F) d L (4 * k.val) ∗ Done d L A da ∗ Gates d L A ∗ Owing (thr d L) O W)
      ⊢ iprop((iprop(Idle d L A 0 q ∗ InSlot d L A 3 q' ti ∗ OutSlot d L A 0 tq ∗ Rest (F := F) d L tr ∗ Done d L A db ∗ Gates d L A
          ∗ Owing (thr d L) O W) -∗ Q ⟨⟩)
        -∗ wp frame (wpE defs 𝒲 (thr d L) bd) Set.univ (phase0 (F := F) L k (v111 k)) Q) :=
  by
  subst hi ho hr ha hb
  exact wp_phase (t := 4 * k.val) (s := 0) (s' := 3) (by have : k.val < 64 := lt_of_lt_of_eq k.isLt trips1; omega) (cond1 k) (owait_iff k 0)
    (off11 L k) (off12 L k) (off13 L k) (off14 k 0) (off15 k 0) (off16 k 0) (off17 k 0) trips2
    (fun _ _ _ _ h0 h1 h2 h3 j _ => wp_trip d L A 0 (4 * k.val) j.val (lt_of_lt_of_eq j.isLt trips2) h0 h1 h2 h3
      (k0_off18_eq j) (k0_off19_eq j) (k0_off21_eq j) (k0_off22_eq j) (k0_off23_eq j) (k0_off24_eq j) (k0_off20_eq j))
    (off25 L k 0)

theorem run_phase1 (k : Fin k0_t1_loop.trips) {ti tq tr da db : ℕ} (hi : ti = 4 * k.val + 1 + 3) (ho : tq = 4 * k.val + 1 + 4) (hr : tr = 4 * k.val + 1 + 1) (ha : da = 4 * k.val + 1 - 4)
    (hb : db = 4 * k.val + 1 - 3) {q q' : PosShare TreeShare} {Q : PUnit.{1} → sProp (MT nD τ sig (HIx 1) (Elt F) ℕ UU ℕ)} :
    iprop(InSlot d L A 1 q (4 * k.val + 1) ∗ Idle d L A 0 q' ∗ OutSlot d L A 1 (4 * k.val + 1) ∗ Rest (F := F) d L (4 * k.val + 1) ∗ Done d L A da ∗ Gates d L A ∗ Owing (thr d L) O W)
      ⊢ iprop((iprop(Idle d L A 1 q ∗ InSlot d L A 0 q' ti ∗ OutSlot d L A 1 tq ∗ Rest (F := F) d L tr ∗ Done d L A db ∗ Gates d L A
          ∗ Owing (thr d L) O W) -∗ Q ⟨⟩)
        -∗ wp frame (wpE defs 𝒲 (thr d L) bd) Set.univ (phase1 (F := F) L k (v111 k)) Q) :=
  by
  subst hi ho hr ha hb
  exact wp_phase (t := 4 * k.val + 1) (s := 1) (s' := 0) (by have : k.val < 64 := lt_of_lt_of_eq k.isLt trips1; omega) (cond3 k) (owait_iff k 1)
    (off26 L k) (off27 L k) (off28 L k) (off14 k 1) (off15 k 1) (off16 k 1) (off17 k 1) trips3
    (fun _ _ _ _ h0 h1 h2 h3 j _ => wp_trip d L A 1 (4 * k.val + 1) j.val (lt_of_lt_of_eq j.isLt trips3) h0 h1 h2 h3
      (k0_off29_eq j) (k0_off30_eq j) (k0_off32_eq j) (k0_off33_eq j) (k0_off34_eq j) (k0_off35_eq j) (k0_off31_eq j))
    (off25 L k 1)

theorem run_phase2 (k : Fin k0_t1_loop.trips) {ti tq tr da db : ℕ} (hi : ti = 4 * k.val + 2 + 3) (ho : tq = 4 * k.val + 2 + 4) (hr : tr = 4 * k.val + 2 + 1) (ha : da = 4 * k.val + 2 - 4)
    (hb : db = 4 * k.val + 2 - 3) {q q' : PosShare TreeShare} {Q : PUnit.{1} → sProp (MT nD τ sig (HIx 1) (Elt F) ℕ UU ℕ)} :
    iprop(InSlot d L A 2 q (4 * k.val + 2) ∗ Idle d L A 1 q' ∗ OutSlot d L A 2 (4 * k.val + 2) ∗ Rest (F := F) d L (4 * k.val + 2) ∗ Done d L A da ∗ Gates d L A ∗ Owing (thr d L) O W)
      ⊢ iprop((iprop(Idle d L A 2 q ∗ InSlot d L A 1 q' ti ∗ OutSlot d L A 2 tq ∗ Rest (F := F) d L tr ∗ Done d L A db ∗ Gates d L A
          ∗ Owing (thr d L) O W) -∗ Q ⟨⟩)
        -∗ wp frame (wpE defs 𝒲 (thr d L) bd) Set.univ (phase2 (F := F) L k (v111 k)) Q) :=
  by
  subst hi ho hr ha hb
  exact wp_phase (t := 4 * k.val + 2) (s := 2) (s' := 1) (by have : k.val < 64 := lt_of_lt_of_eq k.isLt trips1; omega) (cond5 k) (owait_iff k 2)
    (off36 L k) (off37 L k) (off38 L k) (off14 k 2) (off15 k 2) (off16 k 2) (off17 k 2) trips4
    (fun _ _ _ _ h0 h1 h2 h3 j _ => wp_trip d L A 2 (4 * k.val + 2) j.val (lt_of_lt_of_eq j.isLt trips4) h0 h1 h2 h3
      (k0_off39_eq j) (k0_off40_eq j) (k0_off42_eq j) (k0_off43_eq j) (k0_off44_eq j) (k0_off45_eq j) (k0_off41_eq j))
    (off25 L k 2)

theorem run_phase3 (k : Fin k0_t1_loop.trips) {ti tq tr da db : ℕ} (hi : ti = 4 * k.val + 3 + 3) (ho : tq = 4 * k.val + 3 + 4) (hr : tr = 4 * k.val + 3 + 1) (ha : da = 4 * k.val + 3 - 4)
    (hb : db = 4 * k.val + 3 - 3) {q q' : PosShare TreeShare} {Q : PUnit.{1} → sProp (MT nD τ sig (HIx 1) (Elt F) ℕ UU ℕ)} :
    iprop(InSlot d L A 3 q (4 * k.val + 3) ∗ Idle d L A 2 q' ∗ OutSlot d L A 3 (4 * k.val + 3) ∗ Rest (F := F) d L (4 * k.val + 3) ∗ Done d L A da ∗ Gates d L A ∗ Owing (thr d L) O W)
      ⊢ iprop((iprop(Idle d L A 3 q ∗ InSlot d L A 2 q' ti ∗ OutSlot d L A 3 tq ∗ Rest (F := F) d L tr ∗ Done d L A db ∗ Gates d L A
          ∗ Owing (thr d L) O W) -∗ Q ⟨⟩)
        -∗ wp frame (wpE defs 𝒲 (thr d L) bd) Set.univ (phase3 (F := F) L k (v111 k)) Q) :=
  by
  subst hi ho hr ha hb
  exact wp_phase (t := 4 * k.val + 3) (s := 3) (s' := 2) (by have : k.val < 64 := lt_of_lt_of_eq k.isLt trips1; omega) (cond7 k) (owait_iff k 3)
    (off46 L k) (off47 L k) (off48 L k) (off14 k 3) (off15 k 3) (off16 k 3) (off17 k 3) trips5
    (fun _ _ _ _ h0 h1 h2 h3 j _ => wp_trip d L A 3 (4 * k.val + 3) j.val (lt_of_lt_of_eq j.isLt trips5) h0 h1 h2 h3
      (k0_off49_eq j) (k0_off50_eq j) (k0_off52_eq j) (k0_off53_eq j) (k0_off54_eq j) (k0_off55_eq j) (k0_off51_eq j))
    (off25 L k 3)

/-- The state before outer trip `g`. -/
def OuterI (d : Dev nD) (L : grid0.Coords) (A : Ins F) (O : CellTallies nD τ sig (HIx 1)) (W : Waits sig (HIx 1)) (q : Fin 4 → PosShare TreeShare) (g : ℕ) : sProp 𝕄 :=
  iprop(InSlot d L A 0 (q 0) (4 * g) ∗ InSlot d L A 1 (q 1) (4 * g + 1) ∗ InSlot d L A 2 (q 2) (4 * g + 2) ∗ Idle d L A 3 (q 3)
    ∗ OutSlot d L A 0 (4 * g) ∗ OutSlot d L A 1 (4 * g + 1) ∗ OutSlot d L A 2 (4 * g + 2) ∗ OutSlot d L A 3 (4 * g + 3)
    ∗ Rest (F := F) d L (4 * g) ∗ Done d L A (4 * g - 4) ∗ Gates d L A ∗ Owing (thr d L) O W)

/-- One trip of the outer loop takes the ring from task `4k` to task `4k + 4`. -/
theorem wp_outer_trip (q : Fin 4 → PosShare TreeShare) (k : Fin k0_t1_loop.trips) :
    OuterI d L A O W q k.val ⊢ wp frame (wpE defs 𝒲 (thr d L) bd) Set.univ (do
      phase0 (F := F) L k (v111 k)
      phase1 L k (v111 k)
      phase2 L k (v111 k)
      phase3 L k (v111 k)) fun _ => OuterI d L A O W q (k.val + 1) := by
  unfold OuterI
  iintro ⟨Hi0, Hi1, Hi2, Hi3, Ho0, Ho1, Ho2, Ho3, Hr, Hd, Hg, HO⟩
  rw [wp_bind]
  iapply (run_phase0 k (ti := 4 * k.val + 3) (tq := 4 * (k.val + 1)) (tr := 4 * k.val + 1) (da := 4 * k.val - 4) (db := 4 * k.val - 3)
    (by omega) (by omega) (by omega) (by omega) (by omega)) $$ [Hi0 Hi3 Ho0 Hr Hd Hg HO]
  · iframe Hi0 Hi3 Ho0 Hr Hd Hg HO
  iintro ⟨Hi0, Hi3, Ho0, Hr, Hd, Hg, HO⟩
  rw [wp_bind]
  iapply (run_phase1 k (ti := 4 * (k.val + 1)) (tq := 4 * (k.val + 1) + 1) (tr := 4 * k.val + 2) (da := 4 * k.val - 3) (db := 4 * k.val - 2)
    (by omega) (by omega) (by omega) (by omega) (by omega)) $$ [Hi1 Hi0 Ho1 Hr Hd Hg HO]
  · iframe Hi1 Hi0 Ho1 Hr Hd Hg HO
  iintro ⟨Hi1, Hi0, Ho1, Hr, Hd, Hg, HO⟩
  rw [wp_bind]
  iapply (run_phase2 k (ti := 4 * (k.val + 1) + 1) (tq := 4 * (k.val + 1) + 2) (tr := 4 * k.val + 3) (da := 4 * k.val - 2) (db := 4 * k.val - 1)
    (by omega) (by omega) (by omega) (by omega) (by omega)) $$ [Hi2 Hi1 Ho2 Hr Hd Hg HO]
  · iframe Hi2 Hi1 Ho2 Hr Hd Hg HO
  iintro ⟨Hi2, Hi1, Ho2, Hr, Hd, Hg, HO⟩
  iapply (run_phase3 k (ti := 4 * (k.val + 1) + 2) (tq := 4 * (k.val + 1) + 3) (tr := 4 * (k.val + 1)) (da := 4 * k.val - 1) (db := 4 * (k.val + 1) - 4)
    (by omega) (by omega) (by omega) (by omega) (by omega)) $$ [Hi3 Hi2 Ho3 Hr Hd Hg HO]
  · iframe Hi3 Hi2 Ho3 Hr Hd Hg HO
  iintro ⟨Hi3, Hi2, Ho3, Hr, Hd, Hg, HO⟩
  iframe Hi0 Hi1 Hi2 Hi3 Ho0 Ho1 Ho2 Ho3 Hr Hd Hg HO

end Run

end Cert.Proof.Usage
-- ==== Proof.Body.lean ====
module

public import proofs.«01_k».proof.Proof.Outer

/-!
# A tile's whole task

The task's text over the ring's own names, and its run from an idle ring: the gates are copied in, three tasks are
started, the outer loop does all 256, and the last four results are collected.
-/

@[expose] public section

noncomputable section

namespace Cert.Proof.Usage

open Cert.KernelIdeal Cert.KernelIdeal.Gen
open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## The text -/

/-- The copy of the tile's gates into its memory, and the wait for it. -/
def enqFG (L : grid0.Coords) (o : Fin 3 → ℕ) (ho : ∀ a, o a + S32x4x16.size a ≤ S1024x4x16.size a) : PT F L :=
  Prog.lift (.enqueueDma (fxA.slice (Rect.unit (s := S1024x4x16) o S32x4x16.size ho) (fun _ => rfl)) (.here fgV) (.dma cc0_scoped0.sem)
    (View.wordExact_bits rfl) (Memref.isWhole_whole cc0_scratch0).wordExact ⟨Or.inl rfl, trivial⟩)
def waitFG (L : grid0.Coords) (o : Fin 3 → ℕ) (ho : ∀ a, o a + S32x4x16.size a ≤ S1024x4x16.size a) : PT F L :=
  Prog.lift (.waitDma2 cc0_scoped0.sem (fxA.slice (Rect.unit (s := S1024x4x16) o S32x4x16.size ho) (fun _ => rfl)) fgV
    (View.wordExact_bits rfl) (Memref.isWhole_whole cc0_scratch0).wordExact)

/-- A task's three input copies. -/
def fillP (L : grid0.Coords) (s : Fin 4) (ow or : Fin 3 → ℕ) (op : Fin 2 → ℕ) (hw : ∀ a, ow a + S1x2x2048.size a ≤ S1024x2x16384.size a)
    (hr : ∀ a, or a + S1x4x2048.size a ≤ S1024x4x16384.size a) (hp : ∀ a, op a + S1x2048.size a ≤ S1024x16384.size a) : PT F L := do
  enqWW L s ow hw
  enqRW L s or hr
  enqPU L s op hp

/-- One trip of the outer loop. -/
def tripsP (L : grid0.Coords) (k : Fin k0_t1_loop.trips) : PT F L := do
  phase0 L k (v111 k)
  phase1 L k (v111 k)
  phase2 L k (v111 k)
  phase3 L k (v111 k)

/-- The whole task. -/
def bodyP (L : grid0.Coords) : PT F L := do
  enqFG L (k0_off1 L) (k0_off1_inb L)
  waitFG L (k0_off1 L) (k0_off1_inb L)
  fillP L 0 (k0_off2 L) (k0_off3 L) (k0_off4 L) (k0_off2_inb L) (k0_off3_inb L) (k0_off4_inb L)
  fillP L 1 (k0_off5 L) (k0_off6 L) (k0_off7 L) (k0_off5_inb L) (k0_off6_inb L) (k0_off7_inb L)
  fillP L 2 (k0_off8 L) (k0_off9 L) (k0_off10 L) (k0_off8_inb L) (k0_off9_inb L) (k0_off10_inb L)
  Scf.Loop.for k0_t1_loop k0_t1_ok ⟨⟩ (fun k _ => tripsP L k)
  waitOU L 0
  waitOU L 1
  waitOU L 2
  waitOU L 3

/-- The printed outer loop's body is the four phases in a row. -/
theorem outer_eq (L : grid0.Coords) (v2 c64 : BitVec 32) (sc : DmaSems sig S_) :
    k0_t1_body (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 sc v2 0#32 c64 = fun k _ => tripsP L k :=
  funext fun k => funext fun _ => t1_body_eq L v2 sc k 0#32 c64

/-- The printed task is `bodyP`. -/
theorem body_eq (L : grid0.Coords) :
    cc0__sc_body (F := F) L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scoped0 = bodyP L := by
  simp only [cc0__sc_body_eq_skeleton, cc0__sc_body_skel, k0_part20_eq_skeleton, k0_part20_skel, k0_part21_eq_skeleton, k0_part21_skel,
    k0_part22_eq_skeleton, k0_part22_skel, k0_part23_eq_skeleton, k0_part23_skel, outer_eq, bodyP, fillP, bind_assoc, pure_bind]
  rfl

/-! ## The run -/

/-- The gates' copy brings the tile its rows. -/
theorem carries_fg (A : Ins F) (L : grid0.Coords) (ho : ∀ a, (![base L, 0, 0] : Fin 3 → ℕ) a + S32x4x16.size a ≤ S1024x4x16.size a) :
    fgV.view.read (Elt F) (fgC A L)
      = (fxA.slice (Rect.unit (s := S1024x4x16) ![base L, 0, 0] S32x4x16.size ho) (fun _ => rfl)).view.read (Elt F) (fgX A) := by
  have hb := base_le L
  funext y
  have y0 : (y 0).val < 32 := (y 0).isLt
  show A.fg _ = A.fg _
  congr 1
  funext a
  match a with
  | ⟨0, _⟩ => exact Fin.ext (by show (base L + 8 * (y 0).val / 8) % 1024 = base L + 1 * (y 0).val; omega)
  | ⟨1, _⟩ => exact Fin.ext (by show (y 1).val = 0 + 1 * (y 1).val; omega)

section Run

variable {defs : Defs nD τ sig (Elt F) Λ₀} {𝒲 : Variants} {bd : Option 𝒲.V}
variable {d : Dev nD} {L : grid0.Coords} {A : Ins F} {O : CellTallies nD τ sig (HIx 1)} {W : Waits sig (HIx 1)}
variable {Q : PUnit.{1} → sProp (MT nD τ sig (HIx 1) (Elt F) ℕ UU ℕ)}

/-- The gates' copy is issued … -/
theorem wp_enqFG {q : PosShare TreeShare} {o : Fin 3 → ℕ} {ho : ∀ a, o a + S32x4x16.size a ≤ S1024x4x16.size a} (eo : o = ![base L, 0, 0]) :
    iprop((fxA.view.loc (thr d L) ↦{q} fgX A) ∗ (∃ f, fgV.view.loc (thr d L) ↦[Finset.univ]{fullShare} f) ∗ semVal (thr d L, .dma cc0_scoped0.sem) 0)
      ⊢ iprop((Flight EC (thr d L) (.dma cc0_scoped0.sem) none fgV.view.dmaCredit iprop(Gates d L A ∗ (fxA.view.loc (thr d L) ↦{q} fgX A)) -∗ Q ⟨⟩)
          -∗ wp frame (wpE defs 𝒲 (thr d L) bd) Set.univ (enqFG (F := F) L o ho) Q) := by
  subst eo
  have h := issue_whole (F := F) (defs := defs) (𝒲 := 𝒲) (bd := bd) (Q := Q) (c := thr d L) (sm := cc0_scoped0.sem) (q := q) (fs := fgX A) (C := fgC A L)
    (src := fxA.slice (Rect.unit (s := S1024x4x16) ![base L, 0, 0] S32x4x16.size ho) (fun _ => rfl))
    (dst := fgV) (hsrc := View.wordExact_bits rfl) (hdst := (Memref.isWhole_whole cc0_scratch0).wordExact) (hsem := ⟨Or.inl rfl, trivial⟩)
    (show 0 < S32x4x16.numel by decide) (carries_fg A L ho)
  rw [show fgV.view.set = Finset.univ from View.set_whole _] at h
  exact h

/-- … and waited for: the scratch then holds the tile's gates. -/
theorem wp_waitFG {q : PosShare TreeShare} {o : Fin 3 → ℕ} {ho : ∀ a, o a + S32x4x16.size a ≤ S1024x4x16.size a} :
    iprop(Flight EC (thr d L) (.dma cc0_scoped0.sem) none fgV.view.dmaCredit iprop(Gates d L A ∗ (fxA.view.loc (thr d L) ↦{q} fgX A)) ∗ Owing (thr d L) O W)
      ⊢ iprop((iprop((Gates d L A ∗ (fxA.view.loc (thr d L) ↦{q} fgX A)) ∗ semVal (thr d L, .dma cc0_scoped0.sem) 0 ∗ Owing (thr d L) O W) -∗ Q ⟨⟩)
          -∗ wp frame (wpE defs 𝒲 (thr d L) bd) Set.univ (waitFG (F := F) L o ho) Q) :=
  wait_copy rfl

/-- Collecting the results of the last four tasks. -/
theorem wp_last {s : Fin 4} {t : ℕ} :
    iprop(FlOU d L A s t ∗ Done d L A t ∗ Owing (thr d L) O W)
      ⊢ iprop((iprop(IdOU (F := F) d L s ∗ Done d L A (t + 1) ∗ Owing (thr d L) O W) -∗ Q ⟨⟩)
        -∗ wp frame (wpE defs 𝒲 (thr d L) bd) Set.univ (waitOU (F := F) L s) Q) := by
  unfold Done
  rw [done_step]
  iintro ⟨Hf, Hd, HO⟩ Hk
  iapply wp_waitOU $$ [Hf HO]
  · iframe Hf HO
  iintro ⟨⟨Hc, Ho⟩, Hv, HO⟩
  iapply Hk
  unfold IdOU
  iframe HO Hv
  isplitl [Ho]
  · iexists _; iexact Ho
  iapply (pointsTo_union (done_disj L t)).2
  iframe Hd Hc

/-- The ring with nothing in flight. -/
def RingI (d : Dev nD) (L : grid0.Coords) (A : Ins F) (q : Fin 4 → PosShare TreeShare) : sProp 𝕄 :=
  iprop(Idle d L A 0 (q 0) ∗ Idle d L A 1 (q 1) ∗ Idle d L A 2 (q 2) ∗ Idle d L A 3 (q 3)
    ∗ IdOU (F := F) d L 0 ∗ IdOU (F := F) d L 1 ∗ IdOU (F := F) d L 2 ∗ IdOU (F := F) d L 3)

/-- The outer loop, from three tasks in flight to the last four results in flight. -/
theorem wp_outer {q : Fin 4 → PosShare TreeShare} :
    OuterI d L A O W q 0 ⊢ iprop((OuterI d L A O W q 64 -∗ Q ⟨⟩)
      -∗ wp frame (wpE defs 𝒲 (thr d L) bd) Set.univ (Scf.Loop.for k0_t1_loop k0_t1_ok ⟨⟩ (fun k _ => tripsP (F := F) L k)) Q) := by
  iintro HI Hk
  iapply (Scf.wp_for _ _ _ _ _ _ k0_t1_ok _ _ (fun k _ => OuterI d L A O W q k) (fun k _ => wp_outer_trip q k))
  iframe HI
  rw [show Scf.trips k0_t1_loop.lb k0_t1_loop.ub k0_t1_loop.st = 64 from trips1]
  iintro %acc HI
  iapply Hk; iexact HI

/-- Three tasks in flight and one slot at rest are the outer loop's start. -/
theorem outer_start {q : Fin 4 → PosShare TreeShare} :
    iprop((Fl3 d L A 0 (q 0) 0 ∗ Fl3 d L A 1 (q 1) 1 ∗ Fl3 d L A 2 (q 2) 2 ∗ Idle d L A 3 (q 3)
      ∗ IdOU (F := F) d L 0 ∗ IdOU (F := F) d L 1 ∗ IdOU (F := F) d L 2 ∗ IdOU (F := F) d L 3)
      ∗ Rest (F := F) d L 0 ∗ Done d L A 0 ∗ Gates d L A ∗ Owing (thr d L) O W) ⊢ OuterI d L A O W q 0 := by
  unfold OuterI InSlot OutSlot
  simp only [Nat.mul_zero, Nat.zero_add, Nat.zero_sub, Nat.reduceLT, Nat.reduceLeDiff, if_true, if_false]
  iintro ⟨⟨H0, H1, H2, H3, O0, O1, O2, O3⟩, Hr, Hd, Hg, HO⟩
  iframe H0 H1 H2 H3 O0 O1 O2 O3 Hr Hd Hg HO

/-- The outer loop's end is all tasks done but the last four results in flight. -/
theorem outer_end {q : Fin 4 → PosShare TreeShare} :
    OuterI d L A O W q 64 ⊢ iprop((Idle d L A 0 (q 0) ∗ Idle d L A 1 (q 1) ∗ Idle d L A 2 (q 2) ∗ Idle d L A 3 (q 3)
      ∗ FlOU d L A 0 252 ∗ FlOU d L A 1 253 ∗ FlOU d L A 2 254 ∗ FlOU d L A 3 255)
      ∗ Done d L A 252 ∗ Gates d L A ∗ Owing (thr d L) O W) := by
  unfold OuterI InSlot OutSlot
  simp only [Nat.reduceMul, Nat.reduceAdd, Nat.reduceSub, Nat.reduceLT, Nat.reduceLeDiff, if_true, if_false, lt_self_iff_false]
  iintro ⟨H0, H1, H2, H3, O0, O1, O2, O3, Hr, Hd, Hg, HO⟩
  iframe H0 H1 H2 H3 O0 O1 O2 O3 Hd Hg HO

/-- The task: from an idle ring and an unwritten part of the result to an idle ring and the result there. -/
theorem wp_body {q : Fin 4 → PosShare TreeShare} {qf : PosShare TreeShare} :
    iprop(RingI d L A q ∗ Rest (F := F) d L 0 ∗ Done d L A 0
        ∗ ((fxA.view.loc (thr d L) ↦{qf} fgX A) ∗ (∃ f, fgV.view.loc (thr d L) ↦[Finset.univ]{fullShare} f) ∗ semVal (thr d L, .dma cc0_scoped0.sem) 0)
        ∗ Owing (thr d L) O W)
      ⊢ iprop((iprop(RingI d L A q ∗ Done d L A 256 ∗ Gates d L A ∗ semVal (thr d L, .dma cc0_scoped0.sem) 0 ∗ Owing (thr d L) O W) -∗ Q ⟨⟩)
        -∗ wp frame (wpE defs 𝒲 (thr d L) bd) Set.univ (bodyP (F := F) L) Q) := by
  unfold RingI bodyP
  iintro ⟨⟨H0, H1, H2, H3, O0, O1, O2, O3⟩, Hr, Hd, Hfg, HO⟩ Hk
  rw [wp_bind]
  iapply (wp_enqFG (off1 L)) $$ Hfg
  iintro Hf
  rw [wp_bind]
  iapply wp_waitFG $$ [Hf HO]
  · iframe Hf HO
  iintro ⟨⟨Hg, Hx⟩, Hv, HO⟩
  rw [wp_bind]
  iapply (wp_fill (t := 0) (by decide) (off2 L) (off3 L) (off4 L)) $$ H0
  iintro H0
  rw [wp_bind]
  iapply (wp_fill (t := 1) (by decide) (off5 L) (off6 L) (off7 L)) $$ H1
  iintro H1
  rw [wp_bind]
  iapply (wp_fill (t := 2) (by decide) (off8 L) (off9 L) (off10 L)) $$ H2
  iintro H2
  rw [wp_bind]
  iapply wp_outer $$ [H0 H1 H2 H3 O0 O1 O2 O3 Hr Hd Hg HO]
  · iapply outer_start
    iframe H0 H1 H2 H3 O0 O1 O2 O3 Hr Hd Hg HO
  iintro HI
  ihave HI' := outer_end $$ HI
  icases HI' with ⟨⟨H0, H1, H2, H3, O0, O1, O2, O3⟩, Hd, Hg, HO⟩
  rw [wp_bind]
  iapply (wp_last (t := 252)) $$ [O0 Hd HO]
  · iframe O0 Hd HO
  iintro ⟨O0, Hd, HO⟩
  rw [wp_bind]
  iapply (wp_last (t := 253)) $$ [O1 Hd HO]
  · iframe O1 Hd HO
  iintro ⟨O1, Hd, HO⟩
  rw [wp_bind]
  iapply (wp_last (t := 254)) $$ [O2 Hd HO]
  · iframe O2 Hd HO
  iintro ⟨O2, Hd, HO⟩
  iapply (wp_last (t := 255)) $$ [O3 Hd HO]
  · iframe O3 Hd HO
  iintro ⟨O3, Hd, HO⟩
  iapply Hk
  iframe H0 H1 H2 H3 O0 O1 O2 O3 Hd Hg Hv HO

end Run

end Cert.Proof.Usage
-- ==== Proof.Tile.lean ====
module

public import proofs.«01_k».proof.Proof.Body

/-!
# A tile's obligation

A tile is handed a read share of each input and its 32 rows of the result; it gives those rows back, written. Its own
buffers and semaphores are sorted into the ring's slots before the run and gathered again after it.
-/

@[expose] public section

noncomputable section

namespace Cert.Proof.Usage

open Cert.KernelIdeal Cert.KernelIdeal.Gen
open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore.Cfg (ownBufs ownSems0 ownCells ownRefs mem_ownCells mem_ownRefs)

variable {F : FTy → Type} [FloatOps F]

local notation "𝕄" => MT nD τ sig (HIx 1) (Elt F) ℕ UU ℕ

/-! ## Four slots -/

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A buffer held whole is its slots, and slots at any contents are a whole buffer. -/
theorem slots_split {ℓ : Loc nD τ sig} (S : Fin 4 → Finset (Idx ℓ)) (hd : ∀ s s', s ≠ s' → Disjoint (S s) (S s')) (hc : Finset.univ.biUnion S = Finset.univ) :
    (iprop(∃ f, ℓ ↦{fullShare} f) : sProp 𝕄) ⊢ bigSep Finset.univ fun s => iprop(∃ f, ℓ ↦[S s]{fullShare} f) := by
  iintro ⟨%f, H⟩
  ihave H' := (Entails.of_eq (by rw [← pointsTo_biUnion Finset.univ (ℓ := ℓ) S (fun s _ s' _ h => hd s s' h), hc] :
    (ℓ ↦{fullShare} f : sProp 𝕄) = bigSep Finset.univ fun s => ℓ ↦[S s]{fullShare} f)) $$ H
  have h₀ (s : Fin 4) : (ℓ ↦[S s]{fullShare} f : sProp 𝕄) ⊢ iprop(∃ f, ℓ ↦[S s]{fullShare} f) := by
    iintro H; iexists f; iexact H
  have h : (bigSep Finset.univ fun s => ℓ ↦[S s]{fullShare} f : sProp 𝕄) ⊢ bigSep Finset.univ fun s => iprop(∃ f, ℓ ↦[S s]{fullShare} f) :=
    bigSep_mono fun s _ => h₀ s
  iapply h
  iexact H'

/-- Slots at any contents are a whole buffer. -/
theorem slots_join {ℓ : Loc nD τ sig} [Nonempty (Buf (Elt F) ℓ)] (S : Fin 4 → Finset (Idx ℓ)) (hd : ∀ s s', s ≠ s' → Disjoint (S s) (S s'))
    (hc : Finset.univ.biUnion S = Finset.univ) :
    (bigSep Finset.univ fun s => iprop(∃ f, ℓ ↦[S s]{fullShare} f)) ⊢ (iprop(∃ f, ℓ ↦{fullShare} f) : sProp 𝕄) := by
  refine (bigSep_exists_pi Finset.univ (fun s (f : Buf (Elt F) ℓ) => (ℓ ↦[S s]{fullShare} f : sProp 𝕄))).trans ?_
  iintro ⟨%fs, H⟩
  ihave H' := (pointsTo_biUnion_join Finset.univ S fs (fs 0) (fun s _ s' _ h => hd s s' h)) $$ H
  icases H' with ⟨%g, -, Hg⟩
  rw [hc]
  iexists g; iexact Hg

/-- Cells with different values of `p` are different cells … -/
theorem lead_disj {n : ℕ} {s : Shape} (p : s.Idx → ℕ) (i j : Fin n) (h : i ≠ j) :
    Disjoint (Finset.univ.filter fun x : s.Idx => p x = i.val) (Finset.univ.filter fun x : s.Idx => p x = j.val) := by
  refine Finset.disjoint_left.mpr fun x h1 h2 => h (Fin.ext ?_)
  rw [← (Finset.mem_filter.mp h1).2, ← (Finset.mem_filter.mp h2).2]

/-- … and every cell has one of the values below `n`. -/
theorem lead_cover {n : ℕ} {s : Shape} (p : s.Idx → ℕ) (hp : ∀ x, p x < n) :
    (Finset.univ.biUnion fun i : Fin n => Finset.univ.filter fun x : s.Idx => p x = i.val) = Finset.univ := by
  ext x
  simp only [Finset.mem_biUnion, Finset.mem_filter, Finset.mem_univ, true_and, iff_true]
  exact ⟨⟨p x, hp x⟩, rfl⟩

/-! ## The ring, sorted by what it is made of -/

def semOf : Fin 4 → Fin 4 → DmaSem sig
  | 0 => semWW | 1 => semRW | 2 => semPU | 3 => semOU

section Sorted

variable (d : Dev nD) (L : grid0.Coords) (A : Ins F) (q : Fin 4 → PosShare TreeShare)

/-- A buffer of the tile, whole, at some contents. -/
abbrev Own (b : Ref sig .scVector) : sProp 𝕄 := iprop(∃ f, (thr d L).loc b ↦{fullShare} f)

/-- The ring slot by slot. -/
def RingB : sProp 𝕄 := bigSep Finset.univ fun s : Fin 4 => iprop(Idle d L A s (q s) ∗ IdOU (F := F) d L s)

/-- Four slots at rest are the ring at rest … -/
theorem ring_of_slots : RingB d L A q ⊢ RingI d L A q := by
  unfold RingB RingI
  rw [bigSep_four]
  iintro ⟨⟨H0, O0⟩, ⟨H1, O1⟩, ⟨H2, O2⟩, H3, O3⟩
  iframe H0 H1 H2 H3 O0 O1 O2 O3

/-- … and back. -/
theorem slots_of_ring : RingI d L A q ⊢ RingB d L A q := by
  unfold RingB RingI
  rw [bigSep_four]
  iintro ⟨H0, H1, H2, H3, O0, O1, O2, O3⟩
  iframe H0 H1 H2 H3 O0 O1 O2 O3

/-- The ring slot by slot is, kind by kind, the read shares, the scratch slots and the semaphores. -/
theorem ringB_eq : RingB d L A q = iprop((((bigSep Finset.univ fun s : Fin 4 => wwA.view.loc (thr d L) ↦{q s} A.ww)
        ∗ (bigSep Finset.univ fun s : Fin 4 => iprop(∃ f, wwV.view.loc (thr d L) ↦[setWW s]{fullShare} f)) ∗ bigSep Finset.univ fun s : Fin 4 => semVal (thr d L, .dma (semWW s)) 0)
      ∗ ((bigSep Finset.univ fun s : Fin 4 => rwA.view.loc (thr d L) ↦{q s} A.rw)
        ∗ (bigSep Finset.univ fun s : Fin 4 => iprop(∃ f, rwV.view.loc (thr d L) ↦[setRW s]{fullShare} f)) ∗ bigSep Finset.univ fun s : Fin 4 => semVal (thr d L, .dma (semRW s)) 0)
      ∗ ((bigSep Finset.univ fun s : Fin 4 => puA.view.loc (thr d L) ↦{q s} A.pu)
        ∗ (bigSep Finset.univ fun s : Fin 4 => iprop(∃ f, puV.view.loc (thr d L) ↦[setPU s]{fullShare} f)) ∗ bigSep Finset.univ fun s : Fin 4 => semVal (thr d L, .dma (semPU s)) 0))
      ∗ (bigSep Finset.univ fun s : Fin 4 => iprop(∃ f, ouV.view.loc (thr d L) ↦[setPU s]{fullShare} f)) ∗ bigSep Finset.univ fun s : Fin 4 => semVal (thr d L, .dma (semOU s)) 0) := by
  unfold RingB Idle IdWW IdRW IdPU IdOU
  simp only [bigSep_sep']

/-- The ring's semaphores, at zero. -/
def Sems : sProp 𝕄 := bigSep Finset.univ fun p : Fin 4 × Fin 4 => semVal (thr d L, .dma (semOf p.1 p.2)) 0

/-- The ring's semaphores, one row per kind of copy. -/
theorem sems_eq : (Sems (F := F) d L : sProp 𝕄) = iprop((bigSep Finset.univ fun s : Fin 4 => semVal (thr d L, .dma (semWW s)) 0)
    ∗ (bigSep Finset.univ fun s : Fin 4 => semVal (thr d L, .dma (semRW s)) 0) ∗ (bigSep Finset.univ fun s : Fin 4 => semVal (thr d L, .dma (semPU s)) 0)
    ∗ bigSep Finset.univ fun s : Fin 4 => semVal (thr d L, .dma (semOU s)) 0) := by
  unfold Sems
  rw [bigSep_univ_prod, bigSep_four]
  rfl

/-- Read shares of the three large inputs, the four scratch buffers whole and the semaphores at zero make a ring at rest. -/
theorem ring_in :
    iprop((bigSep Finset.univ fun s : Fin 4 => wwA.view.loc (thr d L) ↦{q s} A.ww) ∗ (bigSep Finset.univ fun s : Fin 4 => rwA.view.loc (thr d L) ↦{q s} A.rw)
        ∗ (bigSep Finset.univ fun s : Fin 4 => puA.view.loc (thr d L) ↦{q s} A.pu)
        ∗ (Own (F := F) d L cc0_scratch1 ∗ Own (F := F) d L cc0_scratch2 ∗ Own (F := F) d L cc0_scratch3 ∗ Own (F := F) d L cc0_scratch4) ∗ Sems (F := F) d L)
      ⊢ RingI d L A q := by
  rw [sems_eq]
  iintro ⟨Tw, Tr, Tp, ⟨Bw, Br, Bp, Bo⟩, Sw, Sr, Sp, So⟩
  ihave Bw := (slots_split (F := F) (ℓ := wwV.view.loc (thr d L)) setWW (lead_disj _) (lead_cover _ fun x => (x 0).isLt)) $$ Bw
  ihave Br := (slots_split (F := F) (ℓ := rwV.view.loc (thr d L)) setRW (lead_disj _) (lead_cover _ fun x => (x 0).isLt)) $$ Br
  ihave Bp := (slots_split (F := F) (ℓ := puV.view.loc (thr d L)) setPU (lead_disj _) (lead_cover _ fun x => (x 0).isLt)) $$ Bp
  ihave Bo := (slots_split (F := F) (ℓ := ouV.view.loc (thr d L)) setPU (lead_disj _) (lead_cover _ fun x => (x 0).isLt)) $$ Bo
  iapply (ring_of_slots d L A q)
  rw [ringB_eq]
  iframe Tw Tr Tp Bw Br Bp Bo Sw Sr Sp So

/-- A ring at rest gives the scratch buffers back whole and its semaphores at zero. -/
theorem ring_out :
    RingI d L A q ⊢ iprop((Own (F := F) d L cc0_scratch1 ∗ Own (F := F) d L cc0_scratch2 ∗ Own (F := F) d L cc0_scratch3 ∗ Own (F := F) d L cc0_scratch4) ∗ Sems (F := F) d L) := by
  rw [sems_eq]
  iintro H
  ihave H := (slots_of_ring d L A q) $$ H
  ihave H := (Entails.of_eq (ringB_eq d L A q)) $$ H
  icases H with ⟨⟨⟨-, Bw, Sw⟩, ⟨-, Br, Sr⟩, -, Bp, Sp⟩, Bo, So⟩
  ihave Bw := (slots_join (F := F) (ℓ := wwV.view.loc (thr d L)) setWW (lead_disj _) (lead_cover _ fun x => (x 0).isLt)) $$ Bw
  ihave Br := (slots_join (F := F) (ℓ := rwV.view.loc (thr d L)) setRW (lead_disj _) (lead_cover _ fun x => (x 0).isLt)) $$ Br
  ihave Bp := (slots_join (F := F) (ℓ := puV.view.loc (thr d L)) setPU (lead_disj _) (lead_cover _ fun x => (x 0).isLt)) $$ Bp
  ihave Bo := (slots_join (F := F) (ℓ := ouV.view.loc (thr d L)) setPU (lead_disj _) (lead_cover _ fun x => (x 0).isLt)) $$ Bo
  iframe Bw Br Bp Bo Sw Sr Sp So

/-! ## The tile's own buffers and semaphores -/

/-- The semaphores of the tile that the kernel does not name, and its buffers likewise. -/
def semCells : Finset (GSem nD τ sig) := Finset.univ.image fun p : Fin 4 × Fin 4 => (thr d L, .dma (semOf p.1 p.2))

/-- The ring's sixteen semaphores are different ones, are the tile's own, and are none of them the gates' copy's. -/
theorem semOf_inj : ∀ p p' : Fin 4 × Fin 4, semOf p.1 p.2 = semOf p'.1 p'.2 → p = p' := by decide
theorem semOf_scoped : ∀ p : Fin 4 × Fin 4, (SemLoc.dma (semOf p.1 p.2) : SemLoc sig).isScoped .scVector = true := by decide
theorem semOf_ne : ∀ p : Fin 4 × Fin 4, semOf p.1 p.2 ≠ cc0_scoped0.sem := by decide

/-- The tile's own semaphores: the gates' copy's, the ring's, and the others. -/
theorem ownSems0_V : (ownSems0 (thr d L) : sProp 𝕄) = iprop(semVal (thr d L, .dma cc0_scoped0.sem) 0 ∗ Sems (F := F) d L
    ∗ bigSep ((ownCells (thr d L)).erase (thr d L, .dma cc0_scoped0.sem) \ semCells d L) fun g => semVal g 0) := by
  unfold SparseCore.Cfg.ownSems0
  rw [SparseCore.bigSep_erase' ((mem_ownCells (g := (thr d L, .dma cc0_scoped0.sem))).mpr ⟨rfl, by
      show (SemLoc.dma cc0_scoped0.sem : SemLoc sig).isScoped .scVector = true; decide⟩),
    SparseCore.bigSep_sdiff_split' (t := semCells d L) (fun g hg => by
      obtain ⟨p, -, rfl⟩ := Finset.mem_image.mp hg
      exact Finset.mem_erase.mpr ⟨fun e => semOf_ne p (SemLoc.dma.inj (Prod.mk.inj e).2), mem_ownCells.mpr ⟨rfl, semOf_scoped p⟩⟩)]
  unfold semCells Sems
  rw [bigSep_image_of_injOn (fun p _ p' _ e => semOf_inj p p' (SemLoc.dma.inj (Prod.mk.inj e).2))]

/-- The tile's buffers that the kernel names. -/
def bufRef : Fin 5 → Ref sig .scVector
  | 0 => cc0_scratch0 | 1 => cc0_scratch1 | 2 => cc0_scratch2 | 3 => cc0_scratch3 | 4 => cc0_scratch4
/-- The five buffers are different ones and belong to the tile. -/
theorem bufRef_inj : ∀ i j, bufRef i = bufRef j → i = j := by decide
theorem bufRef_owner (i : Fin 5) : ((thr d L).2.devRef (bufRef i) : DevRef τ sig).owner = .proc (thr d L).2 := by
  match i with
  | 0 => rfl
  | 1 => rfl
  | 2 => rfl
  | 3 => rfl
  | 4 => rfl

def bufRefs : Finset (DevRef τ sig) := Finset.univ.image fun i : Fin 5 => (thr d L).2.devRef (bufRef i)

/-- The tile's own buffers: the five the kernel names, and the others. -/
theorem ownBufs_V : (ownBufs (thr d L) : sProp 𝕄) = iprop((Own (F := F) d L cc0_scratch0 ∗ Own (F := F) d L cc0_scratch1 ∗ Own (F := F) d L cc0_scratch2
      ∗ Own (F := F) d L cc0_scratch3 ∗ Own (F := F) d L cc0_scratch4)
    ∗ bigSep (ownRefs (τ := τ) (thr d L).2 \ bufRefs d L) fun b => iprop(∃ f, ((d, b) : Loc nD τ sig) ↦{fullShare} f)) := by
  unfold SparseCore.Cfg.ownBufs
  rw [SparseCore.bigSep_sdiff_split' (t := bufRefs d L) (fun b hb => by
      obtain ⟨i, -, rfl⟩ := Finset.mem_image.mp hb
      exact SparseCore.Cfg.mem_ownRefs_of_owner (bufRef_owner d L i))]
  congr 1
  unfold bufRefs
  rw [bigSep_image_of_injOn (fun i _ j _ e => bufRef_inj i j (Proc.devRef_injective _ e)),
    show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

end Sorted

/-! ## The obligation -/

section Tile

variable (d : Dev nD) (L : grid0.Coords) (A : Ins F)

/-- The tile's read share of an input. -/
abbrev tok (L : grid0.Coords) : PosShare TreeShare := shareTok fullShare (2 * 16) (finProdFinEquiv ((L 0 : Fin 2), (L 1 : Fin 16)))

/-- What a tile is handed, and what it gives back. -/
def Go : sProp 𝕄 := iprop((wwLoc d ↦{tok L} A.ww) ∗ (fxLoc d ↦{tok L} fgX A) ∗ (rwLoc d ↦{tok L} A.rw) ∗ (puLoc d ↦{tok L} A.pu)
  ∗ ∃ f, ouLoc d ↦[tileSet L]{fullShare} f)
def Td : sProp 𝕄 := iprop(ouLoc d ↦[tileSet L]{fullShare} outG A)

/-- A tile, handed its read shares and its rows of the result, runs its task to the end: the rows hold `outG`, its buffers and semaphores are
as they were, and it waits for nothing new. -/
theorem tile_body (hF : (K (F := F)).Facts) (O : CellTallies nD τ sig (HIx 1)) (W : Waits sig (HIx 1)) (hO : ∀ g, O g none = 0) :
    iprop(levAts (K (F := F)).L (K (F := F)).lev ∗ emp ∗ Go d L A ∗ scopedBufs (thr d L) ∗ scopedSems0 (thr d L) ∗ owes (thr d L) O W)
      ⊢ wp frame (wpE (defs₀ (F := F)) 𝒱₀ (thr d L) none) Set.univ
          (cc0__sc_body L wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scoped0)
          fun _ => iprop(Td d L A ∗ scopedBufs (thr d L) ∗ scopedSems0 (thr d L) ∗ ∃ W', ⌜∀ p ∈ W', p ∈ W ∨ p.2 = none⌝ ∗ owes (thr d L) O W') := by
  rw [body_eq]
  rw [(K (F := F)).scopedBufs_V hF d (cV L) (jV L), SparseCore.Cfg.scopedSems0_V (Val := Elt F) d (cV L) (jV L), ownSems0_V, ownBufs_V]
  unfold Go Td
  iintro ⟨#Hlv, -, ⟨Hww, Hfx, Hrw, Hpu, %fo, Hou⟩, ⟨⟨Bf, Bw, Br, Bp, Bo⟩, Hbufs⟩, ⟨Hsf, Hs, Hsems⟩, HO⟩
  ihave Hww := (pointsTo_toks (tok L) 4).1 $$ Hww
  icases Hww with ⟨-, Hww⟩
  ihave Hrw := (pointsTo_toks (tok L) 4).1 $$ Hrw
  icases Hrw with ⟨-, Hrw⟩
  ihave Hpu := (pointsTo_toks (tok L) 4).1 $$ Hpu
  icases Hpu with ⟨-, Hpu⟩
  ihave HR := (ring_in d L A (fun s => shareTok (tok L) 4 s)) $$ [Hww Hrw Hpu Bw Br Bp Bo Hs]
  · iframe Hww Hrw Hpu Bw Br Bp Bo Hs
  iapply (wp_body (A := A) (q := fun s => shareTok (tok L) 4 s) (qf := tok L) (O := O) (W := W)) $$ [HR Hou Hfx Bf Hsf HO]
  · unfold Rest Done Owing
    rw [rest_zero, done_zero]
    iframe HR Hfx Bf Hsf
    isplitl [Hou]
    · iexists fo; iexact Hou
    isplitr
    · iapply (Entails.of_eq (pointsTo_empty (ℓ := ouA.view.loc (thr d L)) (q := fullShare) (f := outG A) (Ix := HIx 1) (Name := ℕ) (U := UU) (Lvl := ℕ)).symm)
      iempintro
    isplitr
    · iapply ((K (F := F)).mayWaits_none (thr := thr d L) hO); iexact Hlv
    iexists W
    isplitr
    · ipureintro; exact fun p hp => Or.inl hp
    iexact HO
  unfold Done Owing Gates
  rw [done_all]
  iintro ⟨HR, Hou, Bf, Hsf, -, HO⟩
  ihave HR := (ring_out d L A _) $$ HR
  icases HR with ⟨⟨Bw, Br, Bp, Bo⟩, Hs⟩
  iframe Hou Hbufs Hsf Hs Hsems HO Bw Br Bp Bo
  iexists _; iexact Bf

end Tile

end Cert.Proof.Usage
-- ==== Proof.Launch.lean ====
module

public import proofs.«01_k».proof.Proof.Tile

/-!
# The launch

The host spreads the gates over sixteen lanes, hands each of the 32 tiles a read share of the four inputs and its rows
of the result, and has all rows back, written. `run_main` is the whole program's run: the result holds `outG` of the
arguments' launch contents, the arguments are as they were, and every semaphore is at zero.
-/

@[expose] public section

noncomputable section

namespace Cert.Proof.Usage

open Cert.KernelIdeal Cert.KernelIdeal.Gen
open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.StableHlo (held held_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The arguments' launch contents on device `d`. -/
def insOf (d : Dev nD) : Ins F := ⟨m (wwLoc d), m (fgLoc d), m (rwLoc d), m (puLoc d)⟩

def coordsV (c : Fin (grid0.bound 0)) (s : Fin (grid0.bound 1)) : grid0.Coords := fun
  | 0 => c
  | 1 => s
  | ⟨_ + 2, h⟩ => absurd h (Nat.not_lt.2 (Nat.le_add_left _ _))

/-! ## What the tiles are handed -/

instance Go_storable (d : Dev nD) (L : grid0.Coords) (A : Ins F) : BI.Storable (upEmb : UEmb _ 𝕄) (Go d L A) := by unfold Go; infer_instance
instance Td_storable (d : Dev nD) (L : grid0.Coords) (A : Ins F) : BI.Storable (upEmb : UEmb _ 𝕄) (Td d L A) := by unfold Td; infer_instance

/-- A SparseCore is handed what its sixteen tiles are, and gives back what they do. -/
def St (d : Dev nD) (c : Fin (grid0.bound 0)) : sProp 𝕄 := bigSep Finset.univ fun i : Fin (grid0.bound 1) => Go d (coordsV c i) (insOf m d)
def Dn (d : Dev nD) (c : Fin (grid0.bound 0)) : sProp 𝕄 := bigSep Finset.univ fun i : Fin (grid0.bound 1) => Td d (coordsV c i) (insOf m d)
instance St_storable (d : Dev nD) (c : Fin (grid0.bound 0)) : BI.Storable (upEmb : UEmb _ 𝕄) (St m d c) := by unfold St; infer_instance
instance Dn_storable (d : Dev nD) (c : Fin (grid0.bound 0)) : BI.Storable (upEmb : UEmb _ 𝕄) (Dn m d c) := by unfold Dn; infer_instance

def P : (K (F := F)).Pay (nD := nD) (Val := Elt F) (Name := ℕ) (U := UU) where
  st q d c := match q, c with
    | 0, c => St m d c
  dn q d c := match q, c with
    | 0, c => Dn m d c
  go q d c i := match q, c, i with
    | 0, c, i => Go d (coordsV c i) (insOf m d)
  td q d c i := match q, c, i with
    | 0, c, i => Td d (coordsV c i) (insOf m d)
  x := fun _ _ => iprop(emp)

instance P_storable : (P m).IsStorable where
  st q d c := match q, c with
    | 0, c => St_storable m d c
  dn q d c := match q, c with
    | 0, c => Dn_storable m d c
  go q d c i := match q, c, i with
    | 0, c, i => Go_storable d (coordsV c i) (insOf m d)
  td q d c i := match q, c, i with
    | 0, c, i => Td_storable d (coordsV c i) (insOf m d)

/-! ## The obligations -/

theorem defs₀_vector (c : Fin τ.nSC) (s : Fin τ.nSub) :
    defs₀ (F := F) (.scVector c s) 0 () = SparseCore.onTile hcore0 hsub0 (fun c s => cc0__sc_body (coordsV c s) wwA (Memref.isWhole_whole _) fxA (Memref.isWhole_whole _) rwA (Memref.isWhole_whole _) puA (Memref.isWhole_whole _) ouA (Memref.isWhole_whole _)
      fgV (Memref.isWhole_whole _) wwV (Memref.isWhole_whole _) rwV (Memref.isWhole_whole _) puV (Memref.isWhole_whole _) ouV (Memref.isWhole_whole _)
      cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scoped0) ⟨⟩ c s := rfl

/-- The launch theorem's wording of what a tile may still wait for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  iexact HO

/-- What the launch asks of a tile: its task, run from what it is handed to what it gives back. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (insOf m d) hF O W hO).trans (wp_mono frame _ _ fun _ => obl_post)

/-- What a SparseCore is handed is what its tiles are, and what they give back is what it gives back. -/
theorem vecSplit : (K (F := F)).VecSplit' (P m) 0 := by
  intro d c
  show St m d c ⊢ |={Set.univ}=> iprop((bigSep Finset.univ fun i : Fin (grid0.bound 1) => Go d (coordsV c i) (insOf m d))
    ∗ ((bigSep Finset.univ fun i : Fin (grid0.bound 1) => Td d (coordsV c i) (insOf m d)) -∗ Dn m d c))
  unfold St Dn
  iintro H
  imodintro
  isplitl [H]
  · iexact H
  iintro H
  iexact H

/-- Any number of empty assertions is one. -/
theorem bigSep_const_emp {I : Type} (s : Finset I) : (bigSep s fun _ => iprop(emp) : sProp 𝕄) = iprop(emp) := bigSep_emp_const s

/-- No ghost state but the handshakes'. -/
def u₀ : UU := (initOf (K (F := F)).hsCells (K (F := F)).hsToks, 1)

/-- At the start there are the handshakes' tokens, and nothing else to hand out. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]
  · iexact HH
  isplitr
  · rw [bigSep_const_emp]; iempintro
  unfold P
  dsimp only
  rw [show (bigSep Finset.univ fun _ : Thread nD τ => bigSep Finset.univ fun _ : Fin 1 => iprop(emp) : sProp 𝕄) = iprop(emp) from by
    rw [bigSep_congr fun _ _ => bigSep_const_emp _, bigSep_const_emp]]
  iempintro

/-! ## Dealing the arrays out -/

section Deal

variable (d : Dev nD)

/-- One statement per tile is one statement per place in a list of 32. -/
theorem deal_eq (Φ : Fin (2 * 16) → sProp 𝕄) :
    bigSep Finset.univ Φ = bigSep Finset.univ fun c : Fin (grid0.bound 0) => bigSep Finset.univ fun i : Fin (grid0.bound 1) => Φ (finProdFinEquiv ((c : Fin 2), (i : Fin 16))) :=
  (bigSep_univ_equiv (finProdFinEquiv (m := 2) (n := 16)) Φ).trans (bigSep_univ_prod _)

/-- An array held whole is a read share per tile and one share over. -/
theorem deal {ℓ : Loc nD τ sig} (f : Buf (Elt F) ℓ) : (ℓ ↦{fullShare} f : sProp 𝕄)
    ⊢ iprop((ℓ ↦{shareDrop fullShare (2 * 16)} f)
      ∗ bigSep Finset.univ fun c : Fin (grid0.bound 0) => bigSep Finset.univ fun i : Fin (grid0.bound 1) => ℓ ↦{tok (coordsV c i)} f) := by
  iintro H
  ihave H := (pointsTo_toks fullShare (2 * 16)).1 $$ H
  icases H with ⟨H1, H2⟩
  isplitl [H1]
  · iexact H1
  ihave H2 := (Entails.of_eq (deal_eq (F := F) _)) $$ H2
  iexact H2

/-- No cell of the result belongs to two tiles … -/
theorem tiles_disj : ∀ p p' : Fin (grid0.bound 0) × Fin (grid0.bound 1), p ≠ p' → Disjoint (tileSet (coordsV p.1 p.2)) (tileSet (coordsV p'.1 p'.2)) := by
  rintro ⟨c, i⟩ ⟨c', i'⟩ h
  refine Finset.disjoint_left.mpr fun x h1 h2 => h ?_
  have a := (Finset.mem_filter.mp h1).2
  have b := (Finset.mem_filter.mp h2).2
  change 64 * i.val + 32 * c.val ≤ _ ∧ _ < 64 * i.val + 32 * c.val + 32 at a
  change 64 * i'.val + 32 * c'.val ≤ _ ∧ _ < 64 * i'.val + 32 * c'.val + 32 at b
  have hc : c.val < 2 := c.isLt
  have hc' : c'.val < 2 := c'.isLt
  exact Prod.ext (Fin.ext (by show c.val = c'.val; omega)) (Fin.ext (by show i.val = i'.val; omega))

/-- … and every cell belongs to one. -/
theorem tiles_cover : (Finset.univ.biUnion fun p : Fin (grid0.bound 0) × Fin (grid0.bound 1) => tileSet (coordsV p.1 p.2)) = Finset.univ := by
  ext x
  simp only [Finset.mem_biUnion, Finset.mem_univ, true_and, iff_true]
  have hx : (x 0).val < 1024 := (x 0).isLt
  refine ⟨((⟨(x 0).val / 32 % 2, Nat.mod_lt _ (by decide)⟩ : Fin 2), (⟨(x 0).val / 64, by omega⟩ : Fin 16)), Finset.mem_filter.mpr ⟨Finset.mem_univ _, ?_⟩⟩
  show 64 * ((x 0).val / 64) + 32 * ((x 0).val / 32 % 2) ≤ (x 0).val ∧ (x 0).val < 64 * ((x 0).val / 64) + 32 * ((x 0).val / 32 % 2) + 32
  omega

/-- The result whole is the tiles' rows of it. -/
theorem deal_out (f : Buf (Elt F) (ouLoc d)) : (ouLoc d ↦{fullShare} f : sProp 𝕄)
    = bigSep Finset.univ fun c : Fin (grid0.bound 0) => bigSep Finset.univ fun i : Fin (grid0.bound 1) => ouLoc d ↦[tileSet (coordsV c i)]{fullShare} f := by
  rw [← bigSep_univ_prod (fun p : Fin (grid0.bound 0) × Fin (grid0.bound 1) => (ouLoc d ↦[tileSet (coordsV p.1 p.2)]{fullShare} f : sProp 𝕄)),
    ← pointsTo_biUnion Finset.univ (ℓ := ouLoc d) (fun p : Fin (grid0.bound 0) × Fin (grid0.bound 1) => tileSet (coordsV p.1 p.2)) (fun p _ p' _ h => tiles_disj p p' h), tiles_cover]

/-- The dealt shares and rows, put together tile by tile, are what the SparseCores are handed. -/
theorem st_of : iprop((bigSep Finset.univ fun c : Fin (grid0.bound 0) => bigSep Finset.univ fun i : Fin (grid0.bound 1) => wwLoc d ↦{tok (coordsV c i)} m (wwLoc d))
      ∗ (bigSep Finset.univ fun c : Fin (grid0.bound 0) => bigSep Finset.univ fun i : Fin (grid0.bound 1) => fxLoc d ↦{tok (coordsV c i)} fgX (insOf m d))
      ∗ (bigSep Finset.univ fun c : Fin (grid0.bound 0) => bigSep Finset.univ fun i : Fin (grid0.bound 1) => rwLoc d ↦{tok (coordsV c i)} m (rwLoc d))
      ∗ (bigSep Finset.univ fun c : Fin (grid0.bound 0) => bigSep Finset.univ fun i : Fin (grid0.bound 1) => puLoc d ↦{tok (coordsV c i)} m (puLoc d))
      ∗ bigSep Finset.univ fun c : Fin (grid0.bound 0) => bigSep Finset.univ fun i : Fin (grid0.bound 1) => ouLoc d ↦[tileSet (coordsV c i)]{fullShare} m (ouLoc d))
    ⊢ bigSep Finset.univ fun c : Fin (grid0.bound 0) => St m d c := by
  have h₀ (c : Fin (grid0.bound 0)) (i : Fin (grid0.bound 1)) :
      iprop((wwLoc d ↦{tok (coordsV c i)} m (wwLoc d)) ∗ (fxLoc d ↦{tok (coordsV c i)} fgX (insOf m d)) ∗ (rwLoc d ↦{tok (coordsV c i)} m (rwLoc d))
        ∗ (puLoc d ↦{tok (coordsV c i)} m (puLoc d)) ∗ ouLoc d ↦[tileSet (coordsV c i)]{fullShare} m (ouLoc d)) ⊢ Go d (coordsV c i) (insOf m d) := by
    unfold Go insOf
    iintro ⟨H1, H2, H3, H4, H5⟩
    iframe H1 H2 H3 H4
    iexists _; iexact H5
  have h := bigSep_mono (s := Finset.univ) fun c _ => bigSep_mono (s := Finset.univ) fun i _ => h₀ c i
  simp only [bigSep_sep'] at h
  exact h

/-- What the SparseCores give back is the result whole, holding `outG` of the arguments. -/
theorem dn_out : (bigSep Finset.univ fun c : Fin ((K (F := F)).nCore 0) => (P m).dn 0 d c) = (ouLoc d ↦{fullShare} outG (insOf m d) : sProp 𝕄) := by
  show (bigSep Finset.univ fun c : Fin (grid0.bound 0) => Dn m d c) = _
  unfold Dn Td
  rw [deal_out]

end Deal

/-! ## @main -/

abbrev ww' : DevRef τ sig := Proc.devRef .tc (main_arg0 : Ref sig .tc)
abbrev fg' : DevRef τ sig := Proc.devRef .tc (main_arg1 : Ref sig .tc)
abbrev rw' : DevRef τ sig := Proc.devRef .tc (main_arg2 : Ref sig .tc)
abbrev pu' : DevRef τ sig := Proc.devRef .tc (main_arg3 : Ref sig .tc)
abbrev fy' : DevRef τ sig := Proc.devRef .tc (main_v0 : Ref sig .tc)
abbrev fx' : DevRef τ sig := Proc.devRef .tc (main_v1 : Ref sig .tc)
abbrev ou' : DevRef τ sig := Proc.devRef .tc (main_v2 : Ref sig .tc)
abbrev opA : HloOp τ sig (Elt F) := StableHlo.unary main_arg1 main_v0 (broadcastInDim S1024x4x1 ![0, 1] bcast_S1024x4_S1024x4x1_0_1 : (⟨S1024x4, .f32⟩ : BufTy).Contents (Elt F) → (⟨S1024x4x1, .f32⟩ : BufTy).Contents (Elt F))
abbrev opB : HloOp τ sig (Elt F) := StableHlo.unary main_v0 main_v1 (broadcastInDim S1024x4x16 ![0, 1, 2] bcast_S1024x4x1_S1024x4x16_0_1_2 : (⟨S1024x4x1, .f32⟩ : BufTy).Contents (Elt F) → (⟨S1024x4x16, .f32⟩ : BufTy).Contents (Elt F))

abbrev S7 : Finset (DevRef τ sig) := {ww', fg', rw', pu', fy', fx', ou'}
/-- Both host operations stay within the seven arrays. -/
theorem hA : (opA (F := F)).bufs ⊆ S7 := show ({fg', fy'} : Finset (DevRef τ sig)) ⊆ S7 by decide
theorem hB : (opB (F := F)).bufs ⊆ S7 := show ({fy', fx'} : Finset (DevRef τ sig)) ⊆ S7 by decide

/-- The seven arrays held whole, one by one. -/
theorem held_S7 (d : Dev nD) (W : Valuation τ sig (Elt F)) :
    (held (T d) S7 W : sProp 𝕄)
      = iprop((wwLoc d ↦{fullShare} W ww') ∗ (fgLoc d ↦{fullShare} W fg') ∗ (rwLoc d ↦{fullShare} W rw') ∗ (puLoc d ↦{fullShare} W pu')
          ∗ ((SparseCore.T d).loc main_v0 ↦{fullShare} W fy') ∗ (fxLoc d ↦{fullShare} W fx') ∗ ouLoc d ↦{fullShare} W ou') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- They are all the arrays the host has. -/
theorem unscopedBufs_eq (d : Dev nD) (W : (b : Ref sig .tc) → Buf (Elt F) ((d.tc : Thread nD τ).loc b)) :
    (unscopedBufs d W : sProp 𝕄)
      = iprop((wwLoc d ↦{fullShare} W main_arg0) ∗ (fgLoc d ↦{fullShare} W main_arg1) ∗ (rwLoc d ↦{fullShare} W main_arg2) ∗ (puLoc d ↦{fullShare} W main_arg3)
          ∗ ((SparseCore.T d).loc main_v0 ↦{fullShare} W main_v0) ∗ (fxLoc d ↦{fullShare} W main_v1) ∗ ouLoc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents, and the contents at the call. -/
def V0 (d : Dev nD) : Valuation τ sig (Elt F) := fun b => m (d, b)
def V2 (d : Dev nD) : Valuation τ sig (Elt F) := (opB (F := F)).result ((opA (F := F)).result (V0 m d))

/-- At the start they hold the launch contents. -/
theorem unscoped_held (d : Dev nD) : (unscopedBufs d (fun b => m ((SparseCore.T d).loc b)) : sProp 𝕄) = held (T d) S7 (V0 m d) := by
  rw [unscopedBufs_eq, held_S7]; rfl

/-- The host operations change no array but the two they write. -/
theorem V2_of (d : Dev nD) {b : DevRef τ sig} (h : b ∉ ({fx'} : Finset (DevRef τ sig))) (h' : b ∉ ({fy'} : Finset (DevRef τ sig))) : V2 m d b = m (d, b) := by
  unfold V2
  rw [(opB (F := F)).result_of_not_mem _ h, (opA (F := F)).result_of_not_mem _ h']
  rfl

/-- The kernel's gates are the argument's, each on sixteen lanes. -/
theorem V2_fx (d : Dev nD) : V2 m d fx' = fgX (insOf m d) := by
  unfold V2
  refine (StableHlo.unary_result _ _ _ _ _ _).trans ?_
  rw [show (opA (F := F)).result (V0 m d) fy' = _ from StableHlo.unary_result _ _ _ _ _ _]
  funext j
  refine congrArg (m (fgLoc d)) (funext fun a => ?_)
  match a with
  | ⟨0, _⟩ => rfl
  | ⟨1, _⟩ => rfl

/-- The seven arrays at the call: the arguments and the result as at the launch, the gates spread over the lanes. -/
theorem held_V2 (d : Dev nD) :
    (held (T d) S7 ((opB (F := F)).result ((opA (F := F)).result (V0 m d))) : sProp 𝕄)
      = iprop((wwLoc d ↦{fullShare} m (wwLoc d)) ∗ (fgLoc d ↦{fullShare} m (fgLoc d)) ∗ (rwLoc d ↦{fullShare} m (rwLoc d)) ∗ (puLoc d ↦{fullShare} m (puLoc d))
          ∗ ((SparseCore.T d).loc main_v0 ↦{fullShare} V2 m d fy') ∗ (fxLoc d ↦{fullShare} fgX (insOf m d)) ∗ ouLoc d ↦{fullShare} m (ouLoc d)) := by
  show held (SparseCore.T d) S7 (V2 m d) = _
  rw [held_S7, V2_fx, V2_of m d (b := ww') (by decide) (by decide), V2_of m d (b := fg') (by decide) (by decide), V2_of m d (b := rw') (by decide) (by decide),
    V2_of m d (b := pu') (by decide) (by decide), V2_of m d (b := ou') (by decide) (by decide)]

/-- What is left at the end: the result, and a share of each argument. -/
abbrev FIN (d : Dev nD) : sProp 𝕄 := iprop((ouLoc d ↦{fullShare} outG (insOf m d)) ∗ (wwLoc d ↦{shareDrop fullShare (2 * 16)} m (wwLoc d))
  ∗ (fgLoc d ↦{fullShare} m (fgLoc d)) ∗ (rwLoc d ↦{shareDrop fullShare (2 * 16)} m (rwLoc d)) ∗ puLoc d ↦{shareDrop fullShare (2 * 16)} m (puLoc d))

/-- @main: the two broadcasts, the call, and at the end the result written, a share of every argument kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S7) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := S7) hB (V := (opA (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hww, Hfg, Hrw, Hpu, -, Hfx, Hou⟩
  ihave Hww := (deal (F := F) (m (wwLoc d))) $$ Hww
  icases Hww with ⟨Hww, Tww⟩
  ihave Hrw := (deal (F := F) (m (rwLoc d))) $$ Hrw
  icases Hrw with ⟨Hrw, Trw⟩
  ihave Hpu := (deal (F := F) (m (puLoc d))) $$ Hpu
  icases Hpu with ⟨Hpu, Tpu⟩
  ihave Hfx := (deal (F := F) (ℓ := fxLoc d) (fgX (insOf m d))) $$ Hfx
  icases Hfx with ⟨-, Tfx⟩
  ihave Hou := (Entails.of_eq (deal_out (F := F) d (m (ouLoc d)))) $$ Hou
  iapply ((K (F := F)).wp_run (D (F := F)) 𝒱 (EH := EH) (P := P m) κ d 0) $$ [Hst Tww Trw Tpu Tfx Hou Hb Hww Hrw Hpu Hfg Hts]
  isplitr
  · iexact Hctx
  isplitl [Hst]
  · iexact Hst
  isplitl [Tww Trw Tpu Tfx Hou]
  · iapply (st_of m d) $$ [Tww Trw Tpu Tfx Hou]
    iframe Tww Trw Tpu Tfx Hou
  iintro ⟨Hst, Hdn⟩
  ihave Hou := (Entails.of_eq (dn_out (F := F) m d)) $$ Hdn
  imodintro
  iframe Hst Hou Hww Hfg Hrw Hpu Hb Hts

/-- What the claims read of device `d`'s final state. -/
def fq (d : Dev nD) (s' : Phys nD τ sig (Elt F)) : Prop :=
  s'.mem.mem (ouLoc d) = outG (insOf m d) ∧ s'.mem.mem (wwLoc d) = m (wwLoc d) ∧ s'.mem.mem (fgLoc d) = m (fgLoc d) ∧ s'.mem.mem (rwLoc d) = m (rwLoc d)
    ∧ s'.mem.mem (puLoc d) = m (puLoc d)

/-- An array held at `f` holds `f` in the machine's memory. -/
theorem agree_keep {ℓ : Loc nD τ sig} {q : PosShare TreeShare} (f : Buf (Elt F) ℓ) (s' : Phys nD τ sig (Elt F)) :
    iprop(SI s' ∗ ℓ ↦{q} f) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  iexact HSI

/-- So the final memory holds the result and the arguments as claimed. -/
theorem hfin (d : Dev nD) (s' : Phys nD τ sig (Elt F)) : iprop(FIN m d ∗ SI s') ⊢ (⌜fq m d s'⌝ : sProp 𝕄) := by
  iintro ⟨⟨Hou, Hww, Hfg, Hrw, Hpu⟩, HSI⟩
  ihave H := (agree_keep (F := F) (ℓ := ouLoc d) (outG (insOf m d)) s') $$ [HSI Hou]
  · isplitl [HSI] <;> iassumption
  icases H with ⟨%h0, HSI⟩
  ihave H := (agree_keep (F := F) (m (wwLoc d)) s') $$ [HSI Hww]
  · isplitl [HSI] <;> iassumption
  icases H with ⟨%h1, HSI⟩
  ihave H := (agree_keep (F := F) (m (fgLoc d)) s') $$ [HSI Hfg]
  · isplitl [HSI] <;> iassumption
  icases H with ⟨%h2, HSI⟩
  ihave H := (agree_keep (F := F) (m (rwLoc d)) s') $$ [HSI Hrw]
  · isplitl [HSI] <;> iassumption
  icases H with ⟨%h3, HSI⟩
  ihave H := (agree_keep (F := F) (m (puLoc d)) s') $$ [HSI Hpu]
  · isplitl [HSI] <;> iassumption
  icases H with ⟨%h4, -⟩
  ipureintro
  exact ⟨h0, h1, h2, h3, h4⟩

/-- At the end the result holds `outG` of the arguments, the arguments are unchanged, and every semaphore is at zero. -/
def QC : PUnit × MemSt nD τ sig (Elt F) → Prop := fun r =>
  (∀ c : Dev nD, r.2.mem (ouLoc c) = outG (insOf m c) ∧ r.2.mem (wwLoc c) = m (wwLoc c) ∧ r.2.mem (fgLoc c) = m (fgLoc c) ∧ r.2.mem (rwLoc c) = m (rwLoc c)
    ∧ r.2.mem (puLoc c) = m (puLoc c)) ∧ r.2.sem = fun _ => 0

/-- The whole program's run, for any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq) (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Usage
-- ==== Proof.Reference.lean ====
module

public import proofs.«01_k».proof.Proof.Setup
public import proofs.«01_k».proof.Proof.Gen.ReferenceIdeal
public import proofs.«01_k».proof.Proof.Gen.ReferenceIdeal.Run
public import Idealize.ShloMosaic.Lib.Pipeline.Value
public import Idealize.ShloMosaic.Lib.ValueIdx
public import Idealize.ShloMosaic.Lib.IdealHost

/-! # The equation

What the reference computes, cell by cell, over the extended reals: the same usage, retention and clip as one cell of the
kernel's result, `outG`.
-/

@[expose] public section

noncomputable section

namespace Cert.Proof.Usage

open Idealize.ShloMosaic
open Idealize.ShloMosaic.ValueIdx

/-- Plane `k` along the middle axis, cut out and reshaped to a matrix, is the array at that middle coordinate. -/
theorem plane_apply {α : Type} {n : ℕ} (k : Fin n) (x : (⟨3, ![1024, n, 16384]⟩ : Shape).Idx → α)
    (h : (⟨3, ![1024, n, 16384]⟩ : Shape).Slices ![0, k.val, 0] ⟨3, ![1024, 1, 16384]⟩)
    (h' : (⟨3, ![1024, 1, 16384]⟩ : Shape).ShapeCasts ⟨2, ![1024, 16384]⟩) (r : Fin 1024) (c : Fin 16384) :
    shapeCast ⟨2, ![1024, 16384]⟩ (extractStridedSlice ⟨3, ![1024, 1, 16384]⟩ ![0, k.val, 0] x h) h' (ix2 r c) = x (ix3 r k c) := by
  refine (shapeCast_apply _ h' (ix2 r c) (ix3 r 0 c) ?_).trans (extractStridedSlice_apply _ x h _ (ix3 r k c) fun a => ?_)
  · rw [Shape.rowMajor_val_two, Shape.rowMajor_val_three]
    show (r.val * 1 + 0) * 16384 + c.val = r.val * 16384 + c.val
    omega
  · match a with
    | ⟨0, _⟩ => show r.val = 0 + r.val; omega
    | ⟨1, _⟩ => show k.val = k.val + 0; omega
    | ⟨2, _⟩ => show c.val = 0 + c.val; omega

section Ref

open Cert.ReferenceIdeal Cert.ReferenceIdeal.Gen

variable (A : Ins Ideal)

/-- One minus each write weight. -/
abbrev notWritten : S1024x2x16384.Idx → Ideal .f32 := subf (broadcastInDim S1024x2x16384 ![] bcast_S_S1024x2x16384 (constant S_ .f32 0x3F800000#32)) A.ww
/-- One minus gate times read weight. -/
abbrev kept : S1024x4x16384.Idx → Ideal .f32 :=
  subf (broadcastInDim S1024x4x16384 ![] bcast_S_S1024x4x16384 (constant S_ .f32 0x3F800000#32))
    (mulf (broadcastInDim S1024x4x16384 ![0, 1, 2] bcast_S1024x4x1_S1024x4x16384_0_1_2 (broadcastInDim S1024x4x1 ![0, 1] bcast_S1024x4_S1024x4x1_0_1 A.fg)) A.rw)

/-- The reference's result, as its operations compose. -/
def refOut : S1024x16384.Idx → Ideal .f32 :=
  minimumf (broadcastInDim S1024x16384 ![] bcast_S_S1024x16384 (id (constant S_ .f32 0x3F800000#32)))
    (maximumf (broadcastInDim S1024x16384 ![] bcast_S_S1024x16384 (id (constant S_ .f32 0x00000000#32)))
      (mulf (addf A.pu (mulf (subf (broadcastInDim S1024x16384 ![] bcast_S_S1024x16384 (constant S_ .f32 0x3F800000#32)) A.pu)
          (subf (broadcastInDim S1024x16384 ![] bcast_S_S1024x16384 (constant S_ .f32 0x3F800000#32))
            (mulf (shapeCast _ (extractStridedSlice S1024x1x16384 ![0, 0, 0] (notWritten A) slices_S1024x2x16384_S1024x1x16384_0_0_0) shapeCasts_S1024x1x16384_S1024x16384)
              (shapeCast _ (extractStridedSlice S1024x1x16384 ![0, 1, 0] (notWritten A) slices_S1024x2x16384_S1024x1x16384_0_1_0) shapeCasts_S1024x1x16384_S1024x16384)))))
        (mulf (mulf (mulf
            (shapeCast _ (extractStridedSlice S1024x1x16384 ![0, 0, 0] (kept A) slices_S1024x4x16384_S1024x1x16384_0_0_0) shapeCasts_S1024x1x16384_S1024x16384)
            (shapeCast _ (extractStridedSlice S1024x1x16384 ![0, 1, 0] (kept A) slices_S1024x4x16384_S1024x1x16384_0_1_0) shapeCasts_S1024x1x16384_S1024x16384))
            (shapeCast _ (extractStridedSlice S1024x1x16384 ![0, 2, 0] (kept A) slices_S1024x4x16384_S1024x1x16384_0_2_0) shapeCasts_S1024x1x16384_S1024x16384))
            (shapeCast _ (extractStridedSlice S1024x1x16384 ![0, 3, 0] (kept A) slices_S1024x4x16384_S1024x1x16384_0_3_0) shapeCasts_S1024x1x16384_S1024x16384))))

theorem notWritten_at (r : Fin 1024) (k : Fin 2) (c : Fin 16384) :
    notWritten A (ix3 r k c) = FloatOps.subf (one (F := Ideal)) (A.ww (ix3 r k c)) := rfl

/-- The gate stands at every column. -/
theorem gate_at (r : Fin 1024) (k : Fin 4) (c : Fin 16384) :
    broadcastInDim S1024x4x16384 ![0, 1, 2] bcast_S1024x4x1_S1024x4x16384_0_1_2 (broadcastInDim S1024x4x1 ![0, 1] bcast_S1024x4_S1024x4x1_0_1 A.fg) (ix3 r k c)
      = A.fg (ix2 r k) := by
  refine congrArg A.fg (funext fun a => ?_)
  match a with
  | ⟨0, _⟩ => rfl
  | ⟨1, _⟩ => rfl

theorem kept_at (r : Fin 1024) (k : Fin 4) (c : Fin 16384) : kept A (ix3 r k c) = keepF (A.fg (ix2 r k)) (A.rw (ix3 r k c)) := by
  show FloatOps.subf (one (F := Ideal)) (FloatOps.mulf (broadcastInDim S1024x4x16384 ![0, 1, 2] bcast_S1024x4x1_S1024x4x16384_0_1_2
    (broadcastInDim S1024x4x1 ![0, 1] bcast_S1024x4_S1024x4x1_0_1 A.fg) (ix3 r k c)) (A.rw (ix3 r k c))) = _
  rw [gate_at]
  rfl

/-- The reference and the kernel agree at every cell. -/
theorem refOut_eq : refOut A = outG A := by
  funext j
  rw [eq_ix2 j]
  generalize j 0 = r
  generalize j 1 = c
  have w0 := (plane_apply (0 : Fin 2) (notWritten A) slices_S1024x2x16384_S1024x1x16384_0_0_0 shapeCasts_S1024x1x16384_S1024x16384 r c).trans (notWritten_at A r 0 c)
  have w1 := (plane_apply (1 : Fin 2) (notWritten A) slices_S1024x2x16384_S1024x1x16384_0_1_0 shapeCasts_S1024x1x16384_S1024x16384 r c).trans (notWritten_at A r 1 c)
  have k0 := (plane_apply (0 : Fin 4) (kept A) slices_S1024x4x16384_S1024x1x16384_0_0_0 shapeCasts_S1024x1x16384_S1024x16384 r c).trans (kept_at A r 0 c)
  have k1 := (plane_apply (1 : Fin 4) (kept A) slices_S1024x4x16384_S1024x1x16384_0_1_0 shapeCasts_S1024x1x16384_S1024x16384 r c).trans (kept_at A r 1 c)
  have k2 := (plane_apply (2 : Fin 4) (kept A) slices_S1024x4x16384_S1024x1x16384_0_2_0 shapeCasts_S1024x1x16384_S1024x16384 r c).trans (kept_at A r 2 c)
  have k3 := (plane_apply (3 : Fin 4) (kept A) slices_S1024x4x16384_S1024x1x16384_0_3_0 shapeCasts_S1024x1x16384_S1024x16384 r c).trans (kept_at A r 3 c)
  refine (show refOut A (ix2 r c) = FloatOps.minimumf (one (F := Ideal)) (FloatOps.maximumf (zero (F := Ideal)) (FloatOps.mulf
    (FloatOps.addf (A.pu (ix2 r c)) (FloatOps.mulf (FloatOps.subf (one (F := Ideal)) (A.pu (ix2 r c))) (FloatOps.subf (one (F := Ideal)) (FloatOps.mulf _ _))))
    (FloatOps.mulf (FloatOps.mulf (FloatOps.mulf _ _) _) _))) from congrArg₂ (fun x y => FloatOps.minimumf (one (F := Ideal)) (FloatOps.maximumf (zero (F := Ideal)) (FloatOps.mulf
    (FloatOps.addf (A.pu (ix2 r c)) (FloatOps.mulf (FloatOps.subf (one (F := Ideal)) (A.pu (ix2 r c))) (FloatOps.subf (one (F := Ideal)) x))) y)))
    (congrArg₂ FloatOps.mulf w0 w1) (congrArg₂ FloatOps.mulf (congrArg₂ FloatOps.mulf (congrArg₂ FloatOps.mulf k0 k1) k2) k3)).trans ?_
  refine (min_comm _ _).trans (congrArg (fun x => min x _) (max_comm _ _))

end Ref

end Cert.Proof.Usage
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The compiled program, at machine floats, ends with its arguments unchanged and every semaphore at zero: its text is
    `KernelIdeal`'s, whose run holds for any float values. -/
theorem frame_kernel : Cert.quiescent_Kernel := fun m ρ _ =>
  (θ_run Cert.KernelIdeal.defs _ _).mono (fun _ h => ⟨fun c => (h.1 c).2, h.2⟩) (Usage.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Usage.run_main (F := Ideal) m ρ)

/-- The reference ends with its arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the kernel and the reference end with the same result, `outG` of the arguments. -/
theorem algebraic : Cert.algebraic_KernelIdeal_ReferenceIdeal := fun m g m' g' _ hm =>
  ⟨fun c => Usage.outG (Usage.insOf m c),
    (θ_run Cert.KernelIdeal.defs _ _).mono (fun _ h c => h.1 c) (Usage.run_main (F := Ideal) m g),
    (θ_run Cert.ReferenceIdeal.defs _ _).mono (fun _ h c => ⟨(h c).1.trans (by
        obtain ⟨h0, h1, h2, h3⟩ := hm c
        rw [h0, h1, h2, h3]
        exact Usage.refOut_eq (Usage.insOf m c)), (h c).2⟩) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
